-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_routed_KernelIdeal [hPre_finite_routed_KernelIdeal : Cert.Pre_finite_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_routed_ReferenceIdeal [hPre_finite_routed_ReferenceIdeal : Cert.Pre_finite_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_routed_KernelIdeal [hKernelIdeal : Cert.KernelIdeal.Facts] [hPre_finite_routed_KernelIdeal : Cert.Pre_finite_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_routed_ReferenceIdeal [hReferenceIdeal : Cert.ReferenceIdeal.Facts] [hPre_finite_routed_ReferenceIdeal : Cert.Pre_finite_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_routed_KernelIdeal [hKernelIdeal : Cert.KernelIdeal.Facts] [hReferenceIdeal : Cert.ReferenceIdeal.Facts] [hPre_finite_routed_KernelIdeal : Cert.Pre_finite_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 256]⟩ ⟨2, ![256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_routed_KernelIdeal : Cert.Pre_finite_routed_KernelIdeal.Facts) (hPre_finite_routed_ReferenceIdeal : Cert.Pre_finite_routed_ReferenceIdeal.Facts),
    quiescent_Kernel (hKernel := hKernel)
    ∧ quiescent_KernelIdeal (hKernelIdeal := hKernelIdeal)
    ∧ quiescent_KernelIdeal_pre_finite_routed_KernelIdeal (hKernelIdeal := hKernelIdeal) (hPre_finite_routed_KernelIdeal := hPre_finite_routed_KernelIdeal)
    ∧ quiescent_ReferenceIdeal (hReferenceIdeal := hReferenceIdeal)
    ∧ quiescent_ReferenceIdeal_pre_finite_routed_ReferenceIdeal (hReferenceIdeal := hReferenceIdeal) (hPre_finite_routed_ReferenceIdeal := hPre_finite_routed_ReferenceIdeal)
    ∧ preserves_Kernel_KernelIdeal
    ∧ algebraic_KernelIdeal_ReferenceIdeal_pre_finite_routed_KernelIdeal (hKernelIdeal := hKernelIdeal) (hReferenceIdeal := hReferenceIdeal) (hPre_finite_routed_KernelIdeal := hPre_finite_routed_KernelIdeal)
-- ==== Pre_finite_routed_KernelIdeal.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S256x128 .bf16) (main_arg1 : FVec F S128x16 .bf16) (main_arg2 : IVec S256x2 32) (main_arg3 : FVec F S2x128x256 .bf16) : IVec S_ 1 :=
  let main_v0 : FVec F S256x128 .bf16 := Host.absf main_arg0
  let main_cst : FVec F S_ .bf16 := constant S_ .bf16 0x7F80#16
  let main_v1 : FVec F S256x128 .bf16 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x16 .bf16 := Host.absf main_arg1
  let main_cst_0 : FVec F S_ .bf16 := constant S_ .bf16 0x7F80#16
  let main_v5 : FVec F S128x16 .bf16 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_c_2 : IVec S_ 32 := constantI S_ 32 0#32
  let main_v9 : IVec S256x2 32 := broadcastInDim S256x2 ![] bcast_S_S256x2 main_c_2
  let main_v10 : IVec S256x2 1 := cmpi .sge main_arg2 main_v9
  let main_c_3 : IVec S_ 32 := constantI S_ 32 16#32
  let main_v11 : IVec S256x2 32 := broadcastInDim S256x2 ![] bcast_S_S256x2 main_c_3
  let main_v12 : IVec S256x2 1 := cmpi .slt main_arg2 main_v11
  let main_v13 : IVec S256x2 1 := andi main_v10 main_v12
  let main_c_4 : IVec S_ 1 := constantI S_ 1 1#1
  let main_v14 : IVec S_ 1 := (fun x v => Host.reduce IntOp.andi x v reducesTo_S256x2_S_d0_1 h_S_) main_v13 main_c_4
  let main_v15 : IVec S_ 1 := andi main_v8 main_v14
  main_v15
-- ==== Pre_finite_routed_ReferenceIdeal.lean ====
abbrev S256x128 : Shape := ⟨2, ![256, 128]⟩
abbrev S128x16 : Shape := ⟨2, ![128, 16]⟩
abbrev S256x2 : Shape := ⟨2, ![256, 2]⟩
abbrev S16x128x256 : Shape := ⟨3, ![16, 128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S256x128 .bf16) (main_arg1 : FVec F S128x16 .bf16) (main_arg2 : IVec S256x2 32) (main_arg3 : FVec F S16x128x256 .bf16) : IVec S_ 1 :=
  let main_v0 : FVec F S256x128 .bf16 := Host.absf main_arg0
  let main_cst : FVec F S_ .bf16 := constant S_ .bf16 0x7F80#16
  let main_v1 : FVec F S256x128 .bf16 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x16 .bf16 := Host.absf main_arg1
  let main_cst_0 : FVec F S_ .bf16 := constant S_ .bf16 0x7F80#16
  let main_v5 : FVec F S128x16 .bf16 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_c_2 : IVec S_ 32 := constantI S_ 32 0#32
  let main_v9 : IVec S256x2 32 := broadcastInDim S256x2 ![] bcast_S_S256x2 main_c_2
  let main_v10 : IVec S256x2 1 := cmpi .sge main_arg2 main_v9
  let main_c_3 : IVec S_ 32 := constantI S_ 32 16#32
  let main_v11 : IVec S256x2 32 := broadcastInDim S256x2 ![] bcast_S_S256x2 main_c_3
  let main_v12 : IVec S256x2 1 := cmpi .slt main_arg2 main_v11
  let main_v13 : IVec S256x2 1 := andi main_v10 main_v12
  let main_c_4 : IVec S_ 1 := constantI S_ 1 1#1
  let main_v14 : IVec S_ 1 := (fun x v => Host.reduce IntOp.andi x v reducesTo_S256x2_S_d0_1 h_S_) main_v13 main_c_4
  let main_v15 : IVec S_ 1 := andi main_v8 main_v14
  main_v15
-- ==== Kernel.lean ====
abbrev S256x128 : Shape := ⟨2, ![256, 128]⟩
abbrev S128x16 : Shape := ⟨2, ![128, 16]⟩
abbrev S256x2 : Shape := ⟨2, ![256, 2]⟩
abbrev S2x128x256 : Shape := ⟨3, ![2, 128, 256]⟩
abbrev S32x256 : Shape := ⟨2, ![32, 256]⟩
abbrev S256x256 : Shape := ⟨2, ![256, 256]⟩
abbrev S8x32x256 : Shape := ⟨3, ![8, 32, 256]⟩
abbrev S8 : Shape := ⟨1, ![8]⟩
abbrev S_ : Shape := ⟨0, ![]⟩
abbrev S1 : Shape := ⟨1, ![1]⟩
abbrev S256x16 : Shape := ⟨2, ![256, 16]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩
abbrev S1x32x256 : Shape := ⟨3, ![1, 32, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x2, .i32⟩
  | .hbm, ⟨3, _⟩ => ⟨S2x128x256, .bf16⟩
  | .hbm, ⟨4, _⟩ => ⟨S32x256, .f32⟩
  | .local _ .vmem, ⟨0, _⟩ => ⟨S256x128, .bf16⟩
  | .local _ .vmem, ⟨1, _⟩ => ⟨S128x16, .bf16⟩
  | .local _ .vmem, ⟨2, _⟩ => ⟨S256x2, .i32⟩
  | .local _ .vmem, ⟨3, _⟩ => ⟨S2x128x256, .bf16⟩
  | .local _ .vmem, ⟨4, _⟩ => ⟨S32x256, .f32⟩
  | .local _ .vmem, ⟨5, _⟩ => ⟨S256x256, .bf16⟩
  | .local _ .vmem, ⟨6, _⟩ => ⟨S8x32x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 9 21 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 8

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v4 : BitVec 32 := Scalar.subi v2 c1_i32_2
  let c8_i32_3 : BitVec 32 := 8#32
  let v5 : BitVec 32 := Scalar.addi v4 c8_i32_3
  let c8_i32_4 : BitVec 32 := 8#32
  let v6 : BitVec 32 := Scalar.remsi v5 c8_i32_4
  let c1_i32_7 : BitVec 32 := 1#32
  let v9 : BitVec 32 := Scalar.muli v6 c1_i32_7
  let v10 : BitVec 32 := Scalar.addi c0_i32 v9
  v10.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v11 : BitVec 32 := Scalar.subi v2 c2_i32
  let c8_i32_8 : BitVec 32 := 8#32
  let v12 : BitVec 32 := Scalar.addi v11 c8_i32_8
  let c8_i32_9 : BitVec 32 := 8#32
  let v13 : BitVec 32 := Scalar.remsi v12 c8_i32_9
  let c1_i32_12 : BitVec 32 := 1#32
  let v16 : BitVec 32 := Scalar.muli v13 c1_i32_12
  let v17 : BitVec 32 := Scalar.addi c0_i32_13 v16
  v17.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v18 : BitVec 32 := Scalar.subi v2 c3_i32
  let c8_i32_14 : BitVec 32 := 8#32
  let v19 : BitVec 32 := Scalar.addi v18 c8_i32_14
  let c8_i32_15 : BitVec 32 := 8#32
  let v20 : BitVec 32 := Scalar.remsi v19 c8_i32_15
  let c1_i32_18 : BitVec 32 := 1#32
  let v23 : BitVec 32 := Scalar.muli v20 c1_i32_18
  let v24 : BitVec 32 := Scalar.addi c0_i32_19 v23
  v24.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v25 : BitVec 32 := Scalar.subi v2 c4_i32
  let c8_i32_20 : BitVec 32 := 8#32
  let v26 : BitVec 32 := Scalar.addi v25 c8_i32_20
  let c8_i32_21 : BitVec 32 := 8#32
  let v27 : BitVec 32 := Scalar.remsi v26 c8_i32_21
  let c1_i32_24 : BitVec 32 := 1#32
  let v30 : BitVec 32 := Scalar.muli v27 c1_i32_24
  let v31 : BitVec 32 := Scalar.addi c0_i32_25 v30
  v31.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v32 : BitVec 32 := Scalar.subi v2 c5_i32
  let c8_i32_26 : BitVec 32 := 8#32
  let v33 : BitVec 32 := Scalar.addi v32 c8_i32_26
  let c8_i32_27 : BitVec 32 := 8#32
  let v34 : BitVec 32 := Scalar.remsi v33 c8_i32_27
  let c1_i32_30 : BitVec 32 := 1#32
  let v37 : BitVec 32 := Scalar.muli v34 c1_i32_30
  let v38 : BitVec 32 := Scalar.addi c0_i32_31 v37
  v38.toNat
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v39 : BitVec 32 := Scalar.subi v2 c6_i32
  let c8_i32_32 : BitVec 32 := 8#32
  let v40 : BitVec 32 := Scalar.addi v39 c8_i32_32
  let c8_i32_33 : BitVec 32 := 8#32
  let v41 : BitVec 32 := Scalar.remsi v40 c8_i32_33
  let c1_i32_36 : BitVec 32 := 1#32
  let v44 : BitVec 32 := Scalar.muli v41 c1_i32_36
  let v45 : BitVec 32 := Scalar.addi c0_i32_37 v44
  v45.toNat
def k0_dev7 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v46 : BitVec 32 := Scalar.subi v2 c7_i32
  let c8_i32_38 : BitVec 32 := 8#32
  let v47 : BitVec 32 := Scalar.addi v46 c8_i32_38
  let c8_i32_39 : BitVec 32 := 8#32
  let v48 : BitVec 32 := Scalar.remsi v47 c8_i32_39
  let c1_i32_42 : BitVec 32 := 1#32
  let v51 : BitVec 32 := Scalar.muli v48 c1_i32_42
  let v52 : BitVec 32 := Scalar.addi c0_i32_43 v51
  v52.toNat
def k0_off1 (d0 : Dev nD) (c1_i32_74 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v122 : BitVec 32 := Scalar.addi v2 c1_i32_74
  let c8_i32_75 : BitVec 32 := 8#32
  let v123 : BitVec 32 := Scalar.remsi v122 c8_i32_75
  let c32_i32 : BitVec 32 := 32#32
  let v126 : BitVec 32 := Scalar.muli v123 c32_i32
  let c0_i32_86 : BitVec 32 := 0#32
  ![v126.toNat, 0]
def k0_dev8 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_74 : BitVec 32 := 1#32
  let v122 : BitVec 32 := Scalar.addi v2 c1_i32_74
  let c8_i32_75 : BitVec 32 := 8#32
  let v123 : BitVec 32 := Scalar.remsi v122 c8_i32_75
  let c1_i32_82 : BitVec 32 := 1#32
  let v127 : BitVec 32 := Scalar.muli v123 c1_i32_82
  let v128 : BitVec 32 := Scalar.addi c0_i32_83 v127
  v128.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_87 : BitVec 32 := 2#32
  let v136 : BitVec 32 := Scalar.addi v2 c2_i32_87
  let c8_i32_88 : BitVec 32 := 8#32
  let v137 : BitVec 32 := Scalar.remsi v136 c8_i32_88
  let c1_i32_96 : BitVec 32 := 1#32
  let v141 : BitVec 32 := Scalar.muli v137 c1_i32_96
  let v142 : BitVec 32 := Scalar.addi c0_i32_97 v141
  v142.toNat
def k0_dev10 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_101 : BitVec 32 := 3#32
  let v150 : BitVec 32 := Scalar.addi v2 c3_i32_101
  let c8_i32_102 : BitVec 32 := 8#32
  let v151 : BitVec 32 := Scalar.remsi v150 c8_i32_102
  let c1_i32_110 : BitVec 32 := 1#32
  let v155 : BitVec 32 := Scalar.muli v151 c1_i32_110
  let v156 : BitVec 32 := Scalar.addi c0_i32_111 v155
  v156.toNat
def k0_dev11 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_115 : BitVec 32 := 4#32
  let v164 : BitVec 32 := Scalar.addi v2 c4_i32_115
  let c8_i32_116 : BitVec 32 := 8#32
  let v165 : BitVec 32 := Scalar.remsi v164 c8_i32_116
  let c1_i32_124 : BitVec 32 := 1#32
  let v169 : BitVec 32 := Scalar.muli v165 c1_i32_124
  let v170 : BitVec 32 := Scalar.addi c0_i32_125 v169
  v170.toNat
def k0_dev12 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_129 : BitVec 32 := 5#32
  let v178 : BitVec 32 := Scalar.addi v2 c5_i32_129
  let c8_i32_130 : BitVec 32 := 8#32
  let v179 : BitVec 32 := Scalar.remsi v178 c8_i32_130
  let c1_i32_138 : BitVec 32 := 1#32
  let v183 : BitVec 32 := Scalar.muli v179 c1_i32_138
  let v184 : BitVec 32 := Scalar.addi c0_i32_139 v183
  v184.toNat
def k0_dev13 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_143 : BitVec 32 := 6#32
  let v192 : BitVec 32 := Scalar.addi v2 c6_i32_143
  let c8_i32_144 : BitVec 32 := 8#32
  let v193 : BitVec 32 := Scalar.remsi v192 c8_i32_144
  let c1_i32_152 : BitVec 32 := 1#32
  let v197 : BitVec 32 := Scalar.muli v193 c1_i32_152
  let v198 : BitVec 32 := Scalar.addi c0_i32_153 v197
  v198.toNat
def k0_dev14 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_157 : BitVec 32 := 7#32
  let v206 : BitVec 32 := Scalar.addi v2 c7_i32_157
  let c8_i32_158 : BitVec 32 := 8#32
  let v207 : BitVec 32 := Scalar.remsi v206 c8_i32_158
  let c1_i32_166 : BitVec 32 := 1#32
  let v211 : BitVec 32 := Scalar.muli v207 c1_i32_166
  let v212 : BitVec 32 := Scalar.addi c0_i32_167 v211
  v212.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_171 : BitVec 32 := 32#32
  let v220 : BitVec 32 := Scalar.muli v2 c32_i32_171
  let v221 : Index := Scalar.indexCast v220
  let c0_172 : Index := 0#32
  ![v221.toNat, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x2 : Shape := ⟨2, ![256, 2]⟩
abbrev S16x128x256 : Shape := ⟨3, ![16, 128, 256]⟩
abbrev S256x16 : Shape := ⟨2, ![256, 16]⟩
abbrev S_ : Shape := ⟨0, ![]⟩
abbrev S256 : Shape := ⟨1, ![256]⟩
abbrev S256x1 : Shape := ⟨2, ![256, 1]⟩
abbrev S256x1x1 : Shape := ⟨3, ![256, 1, 1]⟩
abbrev S256x128x256 : Shape := ⟨3, ![256, 128, 256]⟩
abbrev S256x256 : Shape := ⟨2, ![256, 256]⟩

abbrev nBuf : Space → Nat
  | .hbm => 57
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x2, .i32⟩
  | .hbm, ⟨3, _⟩ => ⟨S16x128x256, .bf16⟩
  | .hbm, ⟨4, _⟩ => ⟨S256x128, .f32⟩
  | .hbm, ⟨5, _⟩ => ⟨S128x16, .f32⟩
  | .hbm, ⟨6, _⟩ => ⟨S16x128x256, .f32⟩
  | .hbm, ⟨7, _⟩ => ⟨S256x16, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S256x16, .f32⟩
  | .hbm, ⟨12, _⟩ => ⟨S256x16, .f32⟩
  | .hbm, ⟨13, _⟩ => ⟨S256x16, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x16, .f32⟩
  | .hbm, ⟨18, _⟩ => ⟨S256x16, .f32⟩
  | .hbm, ⟨19, _⟩ => ⟨S256x1, .i32⟩
  | .hbm, ⟨20, _⟩ => ⟨S256, .i32⟩
  | .hbm, ⟨21, _⟩ => ⟨S256x1, .i32⟩
  | .hbm, ⟨22, _⟩ => ⟨S256, .i32⟩
  | .hbm, ⟨23, _⟩ => ⟨S256x1, .i32⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S256x1x1, .i32⟩
  | .hbm, ⟨32, _⟩ => ⟨S256x1, .f32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i1⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S256x1x1, .i32⟩
  | .hbm, ⟨42, _⟩ => ⟨S256x1, .f32⟩
  | .hbm, ⟨43, _⟩ => ⟨S256x1, .f32⟩
  | .hbm, ⟨44, _⟩ => ⟨S256x1, .i32⟩
  | .hbm, ⟨45, _⟩ => ⟨S256x128x256, .f32⟩
  | .hbm, ⟨46, _⟩ => ⟨S256x256, .f32⟩
  | .hbm, ⟨47, _⟩ => ⟨S256x1, .i32⟩
  | .hbm, ⟨48, _⟩ => ⟨S256x128x256, .f32⟩
  | .hbm, ⟨49, _⟩ => ⟨S256x256, .f32⟩
  | .hbm, ⟨50, _⟩ => ⟨S256x1, .f32⟩
  | .hbm, ⟨51, _⟩ => ⟨S256x256, .f32⟩
  | .hbm, ⟨52, _⟩ => ⟨S256x256, .f32⟩
  | .hbm, ⟨53, _⟩ => ⟨S256x1, .f32⟩
  | .hbm, ⟨54, _⟩ => ⟨S256x256, .f32⟩
  | .hbm, ⟨55, _⟩ => ⟨S256x256, .f32⟩
  | .hbm, ⟨56, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_v20 : Ref sig .tc := ⟨.hbm, 42, rfl⟩
abbrev main_v21 : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_call3_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Proof.Common.lean ====
/-
# Common: the exchange protocol of the expert-parallel kernel

Eight devices. Device `c` computes a partial result for all 256 rows, sends the 32 rows of block `c + k` to the
accumulator slot `k` of device `c + k` (`k = 1 .. 7`, devices modulo 8) and sums what lands in its own seven slots with
its own rows. Before a transfer into slot `k` of device `c + k` it waits for one unit on its `k`-th credit semaphore,
which that device signals once it runs the kernel.

This module states the protocol: the cells, the memory each cell hands over, what each device owes, the levels that
order the waits, and the ghost state each device starts from.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the exchange's, both with duties `Unit` -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Slots, devices and semaphores -/

/-- The number of a slot, of a device, of a block of 32 rows: all modulo 8. -/
abbrev Slot : Type := Fin 8

/-- The barrier semaphore the kernel obtains from the runtime. -/
abbrev barS : Sem sig := (SemArray.scalar (sig.barrier 0 rfl) : Sems sig S_).sem
/-- The credit, send and receive semaphores of slot `k`. -/
abbrev creditS (k : Slot) : Sem sig := (⟨k.val, Nat.lt_trans k.isLt (by decide)⟩ : Fin 9)
abbrev sendS (k : Slot) : DmaSem sig := (⟨5 + k.val, Nat.lt_trans (Nat.add_lt_add_left k.isLt 5) (by decide)⟩ : Fin 21)
abbrev recvS (k : Slot) : DmaSem sig := (⟨13 + k.val, Nat.add_lt_add_left k.isLt 13⟩ : Fin 21)

/-- The kinds of cells of one device: the barrier (`none`), and the credit (0), send (1) and receive (2) cell of each slot. -/
abbrev Kd : Type := Option (Fin 3 × Slot)

/-- The scoped semaphores of the exchange, by array and slot. -/
abbrev osem : Fin 3 × Slot → SemLoc sig
  | (0, k) => .reg (creditS k) | (1, k) => .dma (sendS k) | (2, k) => .dma (recvS k)
/-- The semaphore of each kind of cell. -/
abbrev csem : Kd → SemLoc sig
  | none => .reg barS | some i => osem i
abbrev kcell (ci : Dev nD × Kd) : GSem nD τ sig := ((ci.1 : Thread nD τ), csem ci.2)

abbrev barCell (c : Dev nD) : GSem nD τ sig := kcell (c, none)
abbrev creditCell (k : Slot) (c : Dev nD) : GSem nD τ sig := kcell (c, some (0, k))
abbrev sendCell (k : Slot) (c : Dev nD) : GSem nD τ sig := kcell (c, some (1, k))
abbrev recvCell (k : Slot) (c : Dev nD) : GSem nD τ sig := kcell (c, some (2, k))

/-- Which kind of cell a semaphore is, read off its number. -/
def dec : SemLoc sig → Option Kd
  | .reg s => if h : s.val < 8 then some (some (0, ⟨s.val, h⟩)) else some none
  | .dma s => if s.val < 5 then none else if h : s.val - 5 < 8 then some (some (1, ⟨s.val - 5, h⟩))
      else some (some (2, ⟨s.val - 13, by have := s.isLt; have h21 : sig.nDmaSem = 21 := rfl; omega⟩))

theorem dec_csem (i : Kd) : dec (csem i) = some i := by
  have h : ∀ i : Kd, dec (csem i) = some i := by decide
  exact h i

theorem csem_injective : Function.Injective csem := fun i j h => by
  have := congrArg dec h
  rw [dec_csem, dec_csem] at this
  exact Option.some.inj this

/-- The kind of a cell: of a TensorCore's semaphore, its kind; of any other, none. -/
def kind (g : GSem nD τ sig) : Option Kd := if g.1.2 = .tc then dec g.2 else none
theorem kind_kcell (c : Dev nD) (i : Kd) : kind (kcell (c, i)) = some i := by
  unfold kind; rw [if_pos rfl]; exact dec_csem i

/-! ## The memory the cells hand over -/

theorem inbSlot (k : Slot) : ∀ a, (![k.val, 0, 0] : Fin 3 → Nat) a + S1x32x256.size a ≤ S8x32x256.size a := by
  revert k; decide
theorem inbRow (t : Slot) : ∀ a, (![32 * t.val, 0] : Fin 2 → Nat) a + S32x256.size a ≤ S256x256.size a := by
  revert t; decide

abbrev xM : Memref sig .tc .vmem S256x128 .bf16 := Memref.whole cc0_stg0_0
abbrev rwM : Memref sig .tc .vmem S128x16 .bf16 := Memref.whole cc0_stg1_0
abbrev ixM : Memref sig .tc .vmem S256x2 .i32 := Memref.whole cc0_stg2_0
abbrev ewM : Memref sig .tc .vmem S2x128x256 .bf16 := Memref.whole cc0_stg3_0
abbrev outM : Memref sig .tc .vmem S32x256 .f32 := Memref.whole cc0_stg4_0
abbrev partM : Memref sig .tc .vmem S256x256 .bf16 := Memref.whole cc0_scratch0
abbrev accM : Memref sig .tc .vmem S8x32x256 .bf16 := Memref.whole cc0_scratch1

/-- The rectangle of accumulator slot `k`, and of the rows of block `t` in the partial result. -/
abbrev slotR (k : Slot) : Rect S8x32x256 := Rect.unit (s := S8x32x256) ![k.val, 0, 0] S1x32x256.size (inbSlot k)
abbrev rowR (t : Slot) : Rect S256x256 := Rect.unit (s := S256x256) ![32 * t.val, 0] S32x256.size (inbRow t)

/-- Accumulator slot `k`, and the rows of block `t` of the partial result. -/
abbrev slotM (k : Slot) : Memref sig .tc .vmem S32x256 .bf16 :=
  (accM.slice (slotR k) (fun _ => rfl)).squeeze S32x256 squeezes_S1x32x256_S32x256
abbrev rowM (t : Slot) : Memref sig .tc .vmem S32x256 .bf16 := partM.slice (rowR t) (fun _ => rfl)

/-- The credit of one transfer. -/
abbrev N : ℕ := (slotM 1).view.dmaCredit
theorem N_pos : 0 < N := View.dmaCredit_pos _ (by decide)

/-! ## Contents -/

/-- What the pipeline stages on device `c`: its `x`, router weights, routing indices and expert weights. -/
def xst (c : Dev nD) : (cc0_stg0_0 : Ref sig .tc).ty.Contents (Elt F) :=
  (win0_0.blk (0 : Fin 1)).view.read (Elt F) ((s₀ m ρ).mem ((c : Thread nD τ).loc main_arg0))
def rwst (c : Dev nD) : (cc0_stg1_0 : Ref sig .tc).ty.Contents (Elt F) :=
  (win0_1.blk (0 : Fin 1)).view.read (Elt F) ((s₀ m ρ).mem ((c : Thread nD τ).loc main_arg1))
def ixst (c : Dev nD) : (cc0_stg2_0 : Ref sig .tc).ty.Contents (Elt F) :=
  (win0_2.blk (0 : Fin 1)).view.read (Elt F) ((s₀ m ρ).mem ((c : Thread nD τ).loc main_arg2))
def ewst (c : Dev nD) : (cc0_stg3_0 : Ref sig .tc).ty.Contents (Elt F) :=
  (win0_3.blk (0 : Fin 1)).view.read (Elt F) ((s₀ m ρ).mem ((c : Thread nD τ).loc main_arg3))

/-- The device's number as the kernel computes it. -/
abbrev w2 (c : Dev nD) : BitVec 32 := Scalar.remsi (Scalar.divsi (Dev.word c) 1#32) 8#32

/-- The two columns of the routing indices and the two expert matrices, as the kernel loads them. -/
def col0 (c : Dev nD) : Vec F S256x1 .i32 :=
  ixM.view.readAt (Elt F) (Rect.unit (s := S256x2) ![0, 0] S256x1.size inb_S256x2_S256x1_0_0).toLoadRect (ixst m ρ c)
def col1 (c : Dev nD) : Vec F S256x1 .i32 :=
  ixM.view.readAt (Elt F) (Rect.unit (s := S256x2) ![0, 1] S256x1.size inb_S256x2_S256x1_0_1).toLoadRect (ixst m ρ c)
def ex0 (c : Dev nD) : Vec F S1x128x256 .bf16 :=
  ewM.view.readAt (Elt F) (Rect.unit (s := S2x128x256) ![0, 0, 0] S1x128x256.size inb_S2x128x256_S1x128x256_0_0_0).toLoadRect (ewst m ρ c)
def ex1 (c : Dev nD) : Vec F S1x128x256 .bf16 :=
  ewM.view.readAt (Elt F) (Rect.unit (s := S2x128x256) ![1, 0, 0] S1x128x256.size inb_S2x128x256_S1x128x256_1_0_0).toLoadRect (ewst m ρ c)

/-- The partial result of device `c`: for every row, the gated contributions of its two experts. -/
def part (c : Dev nD) : (cc0_scratch0 : Ref sig .tc).ty.Contents (Elt F) :=
  k0_pay10 (w2 c) (k0_pay1 (xst m ρ c)) (k0_pay3 (col0 m ρ c)) (k0_pay4 (col1 m ρ c))
    (k0_pay5 (xst m ρ c) (rwst m ρ c) (col0 m ρ c)) (k0_pay6 (xst m ρ c) (rwst m ρ c) (col1 m ρ c))
    (k0_pay7 (xst m ρ c) (rwst m ρ c) (col0 m ρ c) (col1 m ρ c)) k0_pay8
    (k0_pay9 (w2 c) (xst m ρ c) (rwst m ρ c) (col0 m ρ c) (col1 m ρ c)) (ex0 m ρ c) (ex1 m ρ c)

/-- The rows of block `t` of device `d`'s partial result. -/
def rowsOf (d t : Dev nD) : Vec F S32x256 .bf16 := (rowM t).view.read (Elt F) (part m ρ d)

/-- A block of 32 rows read as the one-slot vector the kernel loads. -/
def asSlot (v : Vec F S32x256 .bf16) : Vec F S1x32x256 .bf16 :=
  fun j => v ((Shape.reshapeEquiv (squeezes_S1x32x256_S32x256.numel_eq)).symm j)

/-- What slot `k` of device `c` loads after its transfer landed: block `c` of device `c - k`'s partial result. -/
def slotVal (c : Dev nD) (k : Slot) : Vec F S1x32x256 .bf16 := asSlot (rowsOf m ρ (c - k) c)

/-- The result of device `c`: its own rows plus the seven slots. -/
def outAt (c : Dev nD) : (cc0_stg4_0 : Ref sig .tc).ty.Contents (Elt F) :=
  k0_pay14 (k0_pay13 (k0_pay11 (rowsOf m ρ c c) (slotVal m ρ c 1)) (k0_pay12 (slotVal m ρ c 2)) (slotVal m ρ c 3) (slotVal m ρ c 4))
    (slotVal m ρ c 5) (slotVal m ρ c 6) (slotVal m ρ c 7)

/-! ## Points-to assertions -/

/-- Slot `k` of device `c` at contents `f`. -/
def slotPts (c : Dev nD) (k : Slot) (f : Buf (Elt F) ((c : Thread nD τ).loc cc0_scratch1)) : sProp 𝕄 :=
  (slotM k).view.loc (c : Thread nD τ) ↦[(slotM k).view.set]{fullShare} f
/-- Slot `k` of device `c` at some contents. -/
def slotAny (c : Dev nD) (k : Slot) : sProp 𝕄 := iprop(∃ f, slotPts (F := F) c k f)
/-- Slot `k` of device `c` at contents that read as block `c` of device `c - k`'s partial result. -/
def slotGot (c : Dev nD) (k : Slot) : sProp 𝕄 :=
  iprop(∃ f, ⌜(slotM k).view.read (Elt F) f = rowsOf m ρ (c - k) c⌝ ∗ slotPts (F := F) c k f)
/-- The rows of block `t` of the buffer of device `c`'s partial result, holding it. -/
def rowPts (c : Dev nD) (t : Slot) : sProp 𝕄 :=
  (rowM t).view.loc (c : Thread nD τ) ↦[(rowM t).view.set]{fullShare} part m ρ c

omit [FloatOps F] in
instance slotPts_storable (c : Dev nD) (k) (f) : BI.Storable (upEmb : UEmb _ 𝕄) (slotPts (F := F) c k f) := by unfold slotPts; infer_instance
omit [FloatOps F] in
instance slotAny_storable (c : Dev nD) (k) : BI.Storable (upEmb : UEmb _ 𝕄) (slotAny (F := F) c k) := by unfold slotAny; infer_instance
instance slotGot_storable (c : Dev nD) (k) : BI.Storable (upEmb : UEmb _ 𝕄) (slotGot (F := F) m ρ c k) := by unfold slotGot; infer_instance
instance rowPts_storable (c : Dev nD) (t) : BI.Storable (upEmb : UEmb _ 𝕄) (rowPts (F := F) m ρ c t) := by unfold rowPts; infer_instance

/-! ## The schedule -/

/-- Which cells take part: the barrier, and every cell of the slots 1 to 7. (Slot 0's semaphores are never used.) -/
def live : Kd → Bool
  | none => true | some (_, k) => decide (k ≠ 0)
/-- The units a cell's one duty is worth. -/
def amt : Kd → ℕ
  | none => 1 | some (0, _) => 1 | some (_, _) => N
/-- What a cell of device `c` hands its waiter: a credit cell the slot to write, a send cell the rows sent, a receive
    cell the slot written, the barrier nothing. -/
def pay (c : Dev nD) : Kd → sProp 𝕄
  | none => iprop(emp)
  | some (0, k) => slotAny (F := F) (c + k) k
  | some (1, k) => rowPts m ρ c (c + k)
  | some (2, k) => slotGot m ρ c k

instance pay_storable (c : Dev nD) (i : Kd) : BI.Storable (upEmb : UEmb _ 𝕄) (pay (F := F) m ρ c i) := by
  match i with
  | none => exact inferInstanceAs (BI.Storable upEmb iprop(emp))
  | some (0, k) => exact slotAny_storable _ _
  | some (1, k) => exact rowPts_storable _ _ _ _
  | some (2, k) => exact slotGot_storable _ _ _ _

theorem amt_pos (i : Kd) : 0 < amt i := by
  match i with
  | none => exact Nat.one_pos
  | some (0, k) => exact Nat.one_pos
  | some (1, k) => exact N_pos
  | some (2, k) => exact N_pos

/-- One round, round 0, of one duty per live cell. -/
def Rd : Rounds.Schedule (GSem nD τ sig) Unit 𝕄 where
  duties g r := if r = 0 ∧ (kind g).elim false live = true then {()} else ∅
  unitless _ := False
  amount g _ _ := (kind g).elim 1 amt
  payload g _ _ := (kind g).elim iprop(emp) (pay m ρ g.1.1)
  amount_pos g _ _ _ := by
    cases kind g with
    | none => exact Nat.one_pos
    | some i => exact amt_pos i

instance Rd_payload_storable (g : GSem nD τ sig) (r : ℕ) (d : Unit) :
    BI.Storable (upEmb : UEmb _ 𝕄) ((Rd (F := F) m ρ).payload g r d) := by
  show BI.Storable upEmb ((kind g).elim iprop(emp) (pay m ρ g.1.1))
  cases kind g with
  | none => exact inferInstanceAs (BI.Storable upEmb iprop(emp))
  | some i => exact pay_storable _ _ _ _

section Sched
variable (c : Dev nD) (i : Kd)

theorem duties_live (h : live i = true) : (Rd (F := F) m ρ).duties (kcell (c, i)) 0 = {()} := by
  dsimp only [Rd]; rw [kind_kcell]; exact if_pos ⟨rfl, h⟩
theorem duties_idle (h : live i = false) (r : ℕ) : (Rd (F := F) m ρ).duties (kcell (c, i)) r = ∅ := by
  dsimp only [Rd]; rw [kind_kcell]; exact if_neg fun h' => by rw [show Option.elim (some i) false live = live i from rfl, h] at h'; exact Bool.false_ne_true h'.2
theorem duties_later (g : GSem nD τ sig) : ∀ r, 1 ≤ r → (Rd (F := F) m ρ).duties g r = ∅ :=
  fun r hr => by dsimp only [Rd]; rw [if_neg fun h => by omega]
theorem amount_cell (d : Unit) : (Rd (F := F) m ρ).amount (kcell (c, i)) 0 d = amt i := by
  dsimp only [Rd]; rw [kind_kcell]; rfl
theorem payload_cell (d : Unit) : (Rd (F := F) m ρ).payload (kcell (c, i)) 0 d = pay m ρ c i := by
  dsimp only [Rd]; rw [kind_kcell]; rfl
theorem expect_cell (h : live i = true) : (Rd (F := F) m ρ).expect (kcell (c, i)) 0 = amt i := by
  unfold Schedule.expect Schedule.amountOf; rw [duties_live m ρ c i h, Finset.sum_singleton, amount_cell]
theorem rest_cell (h : live i = true) :
    bigSep ((Rd (F := F) m ρ).duties (kcell (c, i)) 0 \ ∅) (fun d => (Rd (F := F) m ρ).payload (kcell (c, i)) 0 d) = pay m ρ c i := by
  rw [Finset.sdiff_empty, duties_live m ρ c i h, bigSep_singleton, payload_cell]
theorem mem_duties (h : live i = true) : () ∈ (Rd (F := F) m ρ).duties (kcell (c, i)) 0 := by
  rw [duties_live m ρ c i h]; exact Finset.mem_singleton_self _

end Sched

/-! ## What each device owes; the levels -/

/-- The slot served when `n` more follow. -/
abbrev kk (n : ℕ) : Slot := ⟨7 - n, by omega⟩

/-- What is owed with the last `n` transfers still to send. -/
def oR (c : Dev nD) (n : ℕ) : CellTallies nD τ sig Unit := ∑ j ∈ Finset.range n, tallyAt (recvCell (kk j) (c + kk j)) () N
/-- What is owed with the last `n` credits still to give, and all transfers to send. -/
def oC (c : Dev nD) (n : ℕ) : CellTallies nD τ sig Unit := oR c 7 + ∑ j ∈ Finset.range n, tallyAt (creditCell (kk j) (c - kk j)) () 1
/-- What device `c` owes at launch. -/
def O₀ (c : Dev nD) : CellTallies nD τ sig Unit := oC c 7 + tallyAt (barCell c) () 1

theorem oR_succ (c : Dev nD) (n : ℕ) : oR c (n + 1) = oR c n + tallyAt (recvCell (kk n) (c + kk n)) () N := Finset.sum_range_succ _ _
theorem oC_succ (c : Dev nD) (n : ℕ) : oC c (n + 1) = oC c n + tallyAt (creditCell (kk n) (c - kk n)) () 1 := by
  unfold oC; rw [Finset.sum_range_succ, ← add_assoc]
theorem oR_zero (c : Dev nD) : oR c 0 = 0 := rfl
theorem oC_zero (c : Dev nD) : oC c 0 = oR c 7 := by unfold oC; rw [Finset.range_zero, Finset.sum_empty, add_zero]

def L (g : GSem nD τ sig) : Finset Unit := if g.1.2 = .tc then {()} else ∅
/-- Levels: staging and send cells 0, barriers 1, credits 2, receives 3. -/
def lvK : Kd → ℕ
  | none => 1 | some (0, _) => 2 | some (1, _) => 0 | some (2, _) => 3
def lv (g : GSem nD τ sig) (_ : Unit) : ℕ := (kind g).elim 0 lvK

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (i : Kd) (u : Unit) : lv (kcell (c, i)) u = lvK i := by unfold lv; rw [kind_kcell]; rfl

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem sum_pos' {f : ℕ → CellTallies nD τ sig Unit} {n : ℕ} {g : GSem nD τ sig} {u : Unit} (h : 0 < (∑ j ∈ Finset.range n, f j) g u) :
    ∃ j, 0 < f j g u := by
  induction n with
  | zero => exact absurd h (Nat.lt_irrefl 0)
  | succ n ih =>
    rw [Finset.sum_range_succ, Pi.add_apply, Finsupp.add_apply] at h
    by_cases h' : 0 < f n g u
    · exact ⟨n, h'⟩
    · exact ih (by omega)

theorem oR_pos {c : Dev nD} {n : ℕ} {g : GSem nD τ sig} {u : Unit} (h : 0 < oR c n g u) : ∃ k d, g = recvCell k d :=
  let ⟨_, h⟩ := sum_pos' h; ⟨_, _, tally_pos h⟩
theorem oC_pos {c : Dev nD} {n : ℕ} {g : GSem nD τ sig} {u : Unit} (h : 0 < oC c n g u) : ∃ k d, g = recvCell k d ∨ g = creditCell k d := by
  unfold oC at h; rw [Pi.add_apply, Finsupp.add_apply] at h
  by_cases h' : 0 < oR c 7 g u
  · obtain ⟨k, d, h⟩ := oR_pos h'; exact ⟨k, d, .inl h⟩
  · obtain ⟨j, h⟩ := sum_pos' (u := u) (g := g) (n := n) (f := fun j => tallyAt (creditCell (kk j) (c - kk j)) () 1) (by omega)
    exact ⟨_, _, .inr (tally_pos h)⟩
theorem O₀_pos {c : Dev nD} {g : GSem nD τ sig} {u : Unit} (h : 0 < O₀ c g u) : ∃ d i, g = kcell (d, i) ∧ 0 < lvK i := by
  unfold O₀ at h; rw [Pi.add_apply, Finsupp.add_apply] at h
  by_cases h' : 0 < oC c 7 g u
  · obtain ⟨k, d, h | h⟩ := oC_pos h'
    · exact ⟨d, _, h, by show 0 < 3; decide⟩
    · exact ⟨d, _, h, by show 0 < 2; decide⟩
  · exact ⟨c, none, tally_pos (u := u) (n := 1) (Nat.pos_of_ne_zero fun h0 => by rw [h0] at h; omega), by decide⟩

omit [FloatOps F] in
/-- A device may wait on a cell below every cell it owes. -/
theorem mayWait_cut (c : Dev nD) (sm : SemLoc sig) (O : CellTallies nD τ sig Unit) (b : ℕ) (hs : lv ((c : Thread nD τ), sm) () ≤ b)
    (hO : ∀ g u, 0 < O g u → ∃ d i, g = kcell (d, i) ∧ b < lvK i) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨d, i, rfl, _⟩ := hO g u hg; exact Finset.mem_singleton_self _)
    (fun p hp => by rw [Finset.mem_singleton.mp hp]; exact hs)
    (fun g u hg => by obtain ⟨d, i, rfl, h⟩ := hO g u hg; rw [lv_kcell]; exact h)

omit [FloatOps F] in
theorem mayWait_bar (c : Dev nD) : (levAts L lv : sProp 𝕄) ⊢ MayWait (c : Thread nD τ) (.reg barS) () (oC c 7) :=
  mayWait_cut c _ _ 1 (lv_kcell c none ()).le fun g u hg => by
    obtain ⟨k, d, h | h⟩ := oC_pos hg
    · exact ⟨d, _, h, by show 1 < 3; decide⟩
    · exact ⟨d, _, h, by show 1 < 2; decide⟩
omit [FloatOps F] in
theorem mayWait_credit (c : Dev nD) (k : Slot) (n : ℕ) : (levAts L lv : sProp 𝕄) ⊢ MayWait (c : Thread nD τ) (.reg (creditS k)) () (oR c n) :=
  mayWait_cut c _ _ 2 (lv_kcell c (some (0, k)) ()).le fun g u hg => by
    obtain ⟨k, d, h⟩ := oR_pos hg
    exact ⟨d, _, h, by show 2 < 3; decide⟩
omit [FloatOps F] in
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine mayWait_cut c _ _ 0 (Nat.le_of_eq ?_) fun g u hg => O₀_pos hg
    unfold lv kind; rw [if_pos rfl]; dsimp only [dec]; rw [if_pos hq]; rfl
  · rw [MayWait_zero]; iintro -; iempintro

/-! ## The ghost state of a device -/

variable (K : Dev nD × Kd → ℕ)

/-- Every cell's invariant, at the names `K`, and that every cell has reached its round 0. -/
def records : sProp 𝕄 :=
  iprop((bigSep Finset.univ fun ci => cellInv ER (Rd m ρ) (K ci) (kcell ci)) ∗ bigSep Finset.univ fun ci => reached ER (kcell ci) 0)

instance records_persistent : BI.Persistent (records (F := F) m ρ K) := by unfold records; infer_instance

/-- Whose cell of kind `i` device `c` pays: its own barrier and send cells, the credit cell of the device `k` before it,
    the receive cell of the device `k` after it. -/
def tgt (c : Dev nD) : Kd → Dev nD
  | none => c | some (0, k) => c - k | some (1, _) => c | some (2, k) => c + k

/-- The credit tokens of a device: its barrier's unit, and each live slot's credit unit and receive amount. -/
def credK (c : Dev nD) : Kd → sProp 𝕄
  | none => cred (tallyAt (barCell c) () 1)
  | some (0, k) => if k = 0 then iprop(emp) else cred (tallyAt (creditCell k c) () 1)
  | some (1, _) => iprop(emp)
  | some (2, k) => if k = 0 then iprop(emp) else cred (tallyAt (recvCell k c) () N)

/-- The ghost state of device `c` for the cells of kind `i`: its position there, the token it pays with, its credit. -/
def unitOf (c : Dev nD) (i : Kd) : sProp 𝕄 :=
  iprop(atPos ER (kcell (c, i)) 0 ∅ 0 ∗ dutyTok ER (kcell (tgt c i, i)) 0 () ∗ credK (F := F) c i)

/-- What device `c`'s body starts from. -/
def start (c : Dev nD) : sProp 𝕄 :=
  iprop((∃ K, records (F := F) m ρ K) ∗ (bigSep Finset.univ fun i => unitOf (F := F) c i) ∗ levAts L lv)

/-- The two scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The state before the body, and after it: the scratch buffers, and every cell closed at zero. -/
def Φ₀ (c : Dev nD) : sProp 𝕄 := iprop(start (F := F) m ρ c ∗ scratch (F := F) c)
def Φ₁ (c : Dev nD) : sProp 𝕄 := iprop(scratch (F := F) c ∗ bigSep Finset.univ fun i => semVal (kcell (c, i)) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The proof data of the one region: what the staging buffers hold at its point and what is held around the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => rwst m ρ c
    | ⟨2, _⟩ => ixst m ρ c
    | ⟨3, _⟩ => ewst m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.Moe

end
-- ==== Proof.Steps.lean ====
/-
# Steps: one rule per kind of operation of the exchange

Each rule is stated once, for any slot `k`: giving a credit, waiting for one, sending a block, waiting for a landing,
waiting for a send to finish, loading a landed slot. Every wait closes its cell at once, so that what is left of a cell
is its counter at zero.
-/
module

public import proofs.«01_k».proof.Proof.Common

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ)

/-- The weakest precondition of a program of device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, whatever waits are recorded. -/
def owesE (c : Dev nD) (O : CellTallies nD τ sig Unit) : sProp 𝕄 := iprop(∃ W, owes (c : Thread nD τ) O W)

theorem records_inv (ci : Dev nD × Kd) : records (F := F) m ρ K ⊢ cellInv ER (Rd m ρ) (K ci) (kcell ci) := by
  unfold records
  exact Entails.trans (by iintro ⟨H, -⟩; iexact H) (bigSep_elim (Φ := fun ci => cellInv ER (Rd m ρ) (K ci) (kcell ci)) (Finset.mem_univ ci))
theorem records_reached (ci : Dev nD × Kd) : records (F := F) m ρ K ⊢ reached ER (kcell ci) 0 := by
  unfold records
  exact Entails.trans (by iintro ⟨-, H⟩; iexact H) (bigSep_elim (Φ := fun ci => (reached ER (kcell ci) 0 : sProp 𝕄)) (Finset.mem_univ ci))

/-! ## What the steps take and leave -/

/-- For the credit of slot `k`: the slot, and the token of the receiving device's credit cell. -/
def sigPre (c : Dev nD) (k : Slot) : sProp 𝕄 := iprop(slotAny (F := F) c k ∗ dutyTok ER (creditCell k (c - k)) 0 ())
/-- For the wait on a credit: the credit token and the cell's position. -/
def crPre (c : Dev nD) (k : Slot) : sProp 𝕄 := iprop(cred (tallyAt (creditCell k c) () 1) ∗ atPos ER (creditCell k c) 0 ∅ 0)
/-- After it: the slot to write on the device `k` after, and the credit cell at zero. -/
def crPost (c : Dev nD) (k : Slot) : sProp 𝕄 := iprop(slotAny (F := F) (c + k) k ∗ semVal (creditCell k c) 0)
/-- For the transfer: the rows and the tokens of both cells. -/
def sdPre (c : Dev nD) (k : Slot) : sProp 𝕄 :=
  iprop(rowPts m ρ c (c + k) ∗ dutyTok ER (sendCell k c) 0 () ∗ dutyTok ER (recvCell k (c + k)) 0 ())
/-- After it: the send cell's credit. -/
def sdPost (c : Dev nD) (k : Slot) : sProp 𝕄 := iprop(cred (tallyAt (sendCell k c) () N) ∗ semVal (creditCell k c) 0)
/-- For the wait on a landing. -/
def rvPre (c : Dev nD) (k : Slot) : sProp 𝕄 := iprop(cred (tallyAt (recvCell k c) () N) ∗ atPos ER (recvCell k c) 0 ∅ 0)
/-- After it: the slot holding the sender's rows, and the receive cell at zero. -/
def rvPost (c : Dev nD) (k : Slot) : sProp 𝕄 := iprop(slotGot m ρ c k ∗ semVal (recvCell k c) 0)
/-- For the wait on a send. -/
def swPre (c : Dev nD) (k : Slot) : sProp 𝕄 := atPos ER (sendCell k c) 0 ∅ 0
/-- After it: the rows again, and the send and credit cells at zero. -/
def swPost (c : Dev nD) (k : Slot) : sProp 𝕄 := iprop(rowPts m ρ c (c + k) ∗ semVal (sendCell k c) 0 ∗ semVal (creditCell k c) 0)

theorem dev_sub_add (c : Dev nD) (k : Slot) : c - k + k = c := by revert c k; decide
theorem dev_add_sub (c : Dev nD) (k : Slot) : c + k - k = c := by revert c k; decide

theorem live_slot (i : Fin 3) {k : Slot} (hk : k ≠ 0) : live (some (i, k)) = true := decide_eq_true hk

/-- The barrier's own unit: signalled and waited for by the same device. -/
theorem step_barSignal (c : Dev nD) {α : Type} {Q : α → sProp 𝕄} {kont : PUnit → Prog (TpuEff nD τ sig (Elt F) Λ₀ .tc) α} :
    iprop(records m ρ K ∗ dutyTok ER (barCell c) 0 () ∗ owesE c (O₀ c))
      ⊢ iprop((owesE c (oC c 7) -∗ wpc c (kont ⟨⟩) Q)
        -∗ wpc c (.op (.semSignal (c : Thread nD τ) barS (1#32 : BitVec 32).toInt) kont) Q) := by
  unfold owesE
  iintro ⟨#HR, Htok, ⟨%W, HO⟩⟩ Hk
  iapply (Rounds.wp_signal 𝒱₀ ER (Rd m ρ) (c : Thread nD τ) none (dst := (c : Thread nD τ)) (κ := K (c, none))
      (d := ()) (mem_duties m ρ c none rfl) ((amount_cell m ρ c none ()).trans (by decide)) () (oC c 7) rfl) $$ [HO Htok]
  · isplitr; · iapply (records_inv m ρ K (c, none)); iexact HR
    isplitl [HO]; · iexact HO
    isplitl [Htok]; · iexact Htok
    isplitr; · iapply (Entails.of_eq (payload_cell m ρ c none ()).symm); dsimp only [pay]; iempintro
    iapply (records_reached m ρ K (c, none)); iexact HR
  iintro HO
  iapply Hk; iexists W; iexact HO

theorem step_barWait (c : Dev nD) {α : Type} {Q : α → sProp 𝕄} {kont : PUnit → Prog (TpuEff nD τ sig (Elt F) Λ₀ .tc) α} :
    iprop(records m ρ K ∗ levAts L lv ∗ cred (tallyAt (barCell c) () 1) ∗ atPos ER (barCell c) 0 ∅ 0 ∗ owesE c (oC c 7))
      ⊢ iprop(((owesE c (oC c 7) ∗ semVal (barCell c) 0) -∗ wpc c (kont ⟨⟩) Q)
        -∗ wpc c (.op (.semWait barS (1#32 : BitVec 32).toInt) kont) Q) := by
  unfold owesE
  iintro ⟨#HR, #Hlev, Hc, Hat, ⟨%W, HO⟩⟩ Hk
  iapply (Rounds.wp_wait_rest_token 𝒱₀ ER (Rd m ρ) (c : Thread nD τ) none (κ := K (c, none))
      (wpE_semWait_eq 𝒱₀ (c : Thread nD τ) none Set.univ) (Set.mem_univ _) () (O := oC c 7) (W := W) (R := 0) (m := 0) (T := ∅)
      (by rw [expect_cell m ρ c none rfl]; decide)) $$ [Hc HO Hat]
  · isplitr; · iapply (records_inv m ρ K (c, none)); iexact HR
    isplitl [Hc]; · iexact Hc
    isplitl [HO]; · iexact HO
    isplitr; · iapply (mayWait_bar c); iexact Hlev
    iexact Hat
  iintro ⟨HO, Hat, -, -⟩
  imod (Rounds.cell_close ER (Rd m ρ) (Set.mem_univ (K (c, none))) (fun h => h) (R := 0 + 1) (duties_later m ρ (barCell c))) $$ [Hat] with Hz
  · isplitr; · iapply (records_inv m ρ K (c, none)); iexact HR
    iexact Hat
  iapply Hk
  isplitl [HO]; · iexists _; iexact HO
  iexact Hz

/-- Giving the credit of slot `k` to the device `k` before: the slot goes with it. -/
theorem step_signal (c n : Dev nD) (k : Slot) (j : ℕ) (sm : Sem sig) (hk : k ≠ 0) (hj : kk j = k) (hn : n = c - k) (hsm : sm = creditS k)
    {α : Type} {Q : α → sProp 𝕄} {kont : PUnit → Prog (TpuEff nD τ sig (Elt F) Λ₀ .tc) α} :
    iprop(records m ρ K ∗ sigPre c k ∗ owesE c (oC c (j + 1)))
      ⊢ iprop((owesE c (oC c j) -∗ wpc c (kont ⟨⟩) Q)
        -∗ wpc c (.op (.semSignal (n : Thread nD τ) sm (1#32 : BitVec 32).toInt) kont) Q) := by
  subst hn hsm
  unfold owesE sigPre
  iintro ⟨#HR, ⟨Hs, Htok⟩, ⟨%W, HO⟩⟩ Hk
  iapply (Rounds.wp_signal 𝒱₀ ER (Rd m ρ) (c : Thread nD τ) none (dst := ((c - k : Dev nD) : Thread nD τ)) (κ := K (c - k, some (0, k)))
      (d := ()) (mem_duties m ρ (c - k) (some (0, k)) (live_slot 0 hk)) ((amount_cell m ρ (c - k) (some (0, k)) ()).trans (by show (1 : ℕ) = _; decide))
      () (oC c j) ((oC_succ c j).trans (by rw [hj]; rfl))) $$ [HO Htok Hs]
  · isplitr; · iapply (records_inv m ρ K (c - k, some (0, k))); iexact HR
    isplitl [HO]; · iexact HO
    isplitl [Htok]; · iexact Htok
    isplitl [Hs]
    · iapply (Entails.of_eq (payload_cell m ρ (c - k) (some (0, k)) ()).symm); dsimp only [pay]; rw [dev_sub_add]; iexact Hs
    iapply (records_reached m ρ K (c - k, some (0, k))); iexact HR
  iintro HO
  iapply Hk; iexists W; iexact HO

/-- Waiting for the credit of slot `k`: the slot of the device `k` after comes with it. -/
theorem step_credit (c : Dev nD) (k : Slot) (j : ℕ) (sm : Sem sig) (hk : k ≠ 0) (hsm : sm = creditS k)
    {α : Type} {Q : α → sProp 𝕄} {kont : PUnit → Prog (TpuEff nD τ sig (Elt F) Λ₀ .tc) α} :
    iprop(records m ρ K ∗ levAts L lv ∗ crPre c k ∗ owesE c (oR c j))
      ⊢ iprop(((owesE c (oR c j) ∗ crPost c k) -∗ wpc c (kont ⟨⟩) Q)
        -∗ wpc c (.op (.semWait sm (1#32 : BitVec 32).toInt) kont) Q) := by
  subst hsm
  unfold owesE crPre crPost
  iintro ⟨#HR, #Hlev, ⟨Hc, Hat⟩, ⟨%W, HO⟩⟩ Hk
  iapply (Rounds.wp_wait_rest_token 𝒱₀ ER (Rd m ρ) (c : Thread nD τ) none (κ := K (c, some (0, k)))
      (wpE_semWait_eq 𝒱₀ (c : Thread nD τ) none Set.univ) (Set.mem_univ _) () (O := oR c j) (W := W) (R := 0) (m := 0) (T := ∅)
      (by rw [expect_cell m ρ c (some (0, k)) (live_slot 0 hk)]; show 0 + _ = (1 : ℕ); decide)) $$ [Hc HO Hat]
  · isplitr; · iapply (records_inv m ρ K (c, some (0, k))); iexact HR
    isplitl [Hc]; · iexact Hc
    isplitl [HO]; · iexact HO
    isplitr; · iapply (mayWait_credit c k j); iexact Hlev
    iexact Hat
  iintro ⟨HO, Hat, -, Hpay⟩
  ihave Hs := (Entails.of_eq (rest_cell m ρ c (some (0, k)) (live_slot 0 hk))) $$ Hpay
  imod (Rounds.cell_close ER (Rd m ρ) (Set.mem_univ (K (c, some (0, k)))) (fun h => h) (R := 0 + 1) (duties_later m ρ (creditCell k c))) $$ [Hat] with Hz
  · isplitr; · iapply (records_inv m ρ K (c, some (0, k))); iexact HR
    iexact Hat
  iapply Hk
  isplitl [HO]; · iexists _; iexact HO
  isplitl [Hs]; · dsimp only [pay]; iexact Hs
  iexact Hz

/-- Sending block `c + k` into slot `k` of the device `k` after. -/
theorem step_send (c n : Dev nD) (k : Slot) (j : ℕ) (sS rS : DmaSem sig) (o : Fin 3 → ℕ) (o' : Fin 2 → ℕ) (hk : k ≠ 0) (hj : kk j = k) (hn : n = c + k)
    (hsS : sS = sendS k) (hrS : rS = recvS k) (ho : o = ![k.val, 0, 0]) (ho' : o' = ![32 * (c + k).val, 0])
    {i : ∀ a, o a + S1x32x256.size a ≤ S8x32x256.size a} {i' : ∀ a, o' a + S32x256.size a ≤ S256x256.size a} {q : S1x32x256.Squeezes S32x256} {hu hu'}
    {hsc} {hsrc} {hdst} {hsem}
    {α : Type} {Q : α → sProp 𝕄} {kont : PUnit → Prog (TpuEff nD τ sig (Elt F) Λ₀ .tc) α} :
    iprop(records m ρ K ∗ sdPre m ρ c k ∗ crPost c k ∗ owesE c (oR c (j + 1)))
      ⊢ iprop(((owesE c (oR c j) ∗ sdPost c k) -∗ wpc c (kont ⟨⟩) Q)
        -∗ wpc c (.op (.enqueueDma (partM.slice (Rect.unit (s := S256x256) o' S32x256.size i') hu')
            (.remote (Dev.tc n : Thread nD τ) ((accM.slice (Rect.unit (s := S8x32x256) o S1x32x256.size i) hu).squeeze S32x256 q) (.dma sS) hsc)
            (.dma rS) hsrc hdst hsem) kont) Q) := by
  subst hn hsS hrS ho ho'
  unfold owesE sdPre crPost sdPost slotAny
  iintro ⟨#HR, ⟨Hrow, HtS, HtV⟩, ⟨⟨%f, Hslot⟩, Hz⟩, ⟨%W, HO⟩⟩ Hk
  iapply (Rounds.wp_send_pointsTo 𝒱₀ ER (Rd m ρ) (c : Thread nD τ) none (κ₁ := K (c, some (1, k))) (κ₂ := K (c + k, some (2, k)))
    (c' := ((c + k : Dev nD) : Thread nD τ)) (src := rowM (c + k)) (dst := slotM k) (fs := part m ρ c)
    (r₁ := 0) (r₂ := 0) (d₁ := ()) (d₂ := ()) (fd := f)
    (mem_duties m ρ c (some (1, k)) (live_slot 1 hk)) (mem_duties m ρ (c + k) (some (2, k)) (live_slot 2 hk))
    () () N rfl (amount_cell m ρ c (some (1, k)) ()) (amount_cell m ρ (c + k) (some (2, k)) ()) (oR c j) ((oR_succ c j).trans (by rw [hj])) (W := W)
    (Entails.of_eq (payload_cell m ρ c (some (1, k)) ()).symm)
    (by
      refine BIBase.Entails.trans ?_ (Entails.of_eq (payload_cell m ρ (c + k) (some (2, k)) ()).symm)
      dsimp only [pay]; unfold slotGot slotPts
      iintro H
      iexists ((slotM k).view.write (Elt F) f ((rowM (c + k)).view.read (Elt F) (part m ρ c)) Finset.univ)
      isplitr
      · ipureintro
        rw [dev_add_sub]
        exact View.read_write_univ _ _
      iexact H)) $$ [Hrow HtS HtV Hslot HO]
  · isplitr; · iapply (records_inv m ρ K (c, some (1, k))); iexact HR
    isplitr; · iapply (records_inv m ρ K (c + k, some (2, k))); iexact HR
    isplitl [Hrow]; · unfold rowPts; iexact Hrow
    isplitl [Hslot]; · unfold slotPts; iexact Hslot
    isplitl [HO]; · iexact HO
    isplitl [HtS]; · iexact HtS
    isplitr; · iapply (records_reached m ρ K (c, some (1, k))); iexact HR
    isplitl [HtV]; · iexact HtV
    iapply (records_reached m ρ K (c + k, some (2, k))); iexact HR
  iintro ⟨HcS, HO⟩
  iapply Hk
  isplitl [HO]; · iexists W; iexact HO
  isplitl [HcS]; · iexact HcS
  iexact Hz

/-- Waiting for the transfer into slot `k` to land. -/
theorem step_recv (c : Dev nD) (k : Slot) (sm : DmaSem sig) (hk : k ≠ 0) (hsm : sm = recvS k)
    {s' : Shape} {e' : EltTy} {src : Memref sig .tc .vmem s' e'} {o : Fin 3 → ℕ} {i : ∀ a, o a + S1x32x256.size a ≤ S8x32x256.size a}
    {q : S1x32x256.Squeezes S32x256} {hu} {hsrc} {hdst}
    {α : Type} {Q : α → sProp 𝕄} {kont : PUnit → Prog (TpuEff nD τ sig (Elt F) Λ₀ .tc) α} :
    iprop(records m ρ K ∗ rvPre c k ∗ owesE c 0)
      ⊢ iprop(((owesE c 0 ∗ rvPost m ρ c k) -∗ wpc c (kont ⟨⟩) Q)
        -∗ wpc c (.op (.waitDma2 sm src ((accM.slice (Rect.unit (s := S8x32x256) o S1x32x256.size i) hu).squeeze S32x256 q) hsrc hdst) kont) Q) := by
  subst hsm
  unfold owesE rvPre rvPost
  iintro ⟨#HR, ⟨Hc, Hat⟩, ⟨%W, HO⟩⟩ Hk
  iapply (Rounds.wp_wait_rest_token 𝒱₀ ER (Rd m ρ) (c : Thread nD τ) none (κ := K (c, some (2, k)))
      (wpE_waitDma2_eq 𝒱₀ (c : Thread nD τ) none Set.univ) (Set.mem_univ _) () (O := 0) (W := W) (R := 0) (m := 0) (T := ∅)
      (by rw [Nat.zero_add, expect_cell m ρ c (some (2, k)) (live_slot 2 hk)]; rfl)) $$ [Hc HO Hat]
  · isplitr; · iapply (records_inv m ρ K (c, some (2, k))); iexact HR
    isplitl [Hc]; · iexact Hc
    isplitl [HO]; · iexact HO
    isplitr; · rw [MayWait_zero]; iempintro
    iexact Hat
  iintro ⟨HO, Hat, -, Hpay⟩
  ihave Hs := (Entails.of_eq (rest_cell m ρ c (some (2, k)) (live_slot 2 hk))) $$ Hpay
  imod (Rounds.cell_close ER (Rd m ρ) (Set.mem_univ (K (c, some (2, k)))) (fun h => h) (R := 0 + 1) (duties_later m ρ (recvCell k c))) $$ [Hat] with Hz
  · isplitr; · iapply (records_inv m ρ K (c, some (2, k))); iexact HR
    iexact Hat
  iapply Hk
  isplitl [HO]; · iexists _; iexact HO
  isplitl [Hs]; · dsimp only [pay]; iexact Hs
  iexact Hz

/-- Waiting for the transfer out of slot `k`'s block to have been read. -/
theorem step_sendWait (c : Dev nD) (k : Slot) (sm : DmaSem sig) (hk : k ≠ 0) (hsm : sm = sendS k)
    {s' : Shape} {e' : EltTy} {src : Memref sig .tc .vmem s' e'} {o : Fin 2 → ℕ} {i : ∀ a, o a + S32x256.size a ≤ S256x256.size a}
    {hu} {hsrc} {hdst}
    {α : Type} {Q : α → sProp 𝕄} {kont : PUnit → Prog (TpuEff nD τ sig (Elt F) Λ₀ .tc) α} :
    iprop(records m ρ K ∗ sdPost c k ∗ swPre c k ∗ owesE c 0)
      ⊢ iprop(((owesE c 0 ∗ swPost m ρ c k) -∗ wpc c (kont ⟨⟩) Q)
        -∗ wpc c (.op (.waitDma2 sm src (partM.slice (Rect.unit (s := S256x256) o S32x256.size i) hu) hsrc hdst) kont) Q) := by
  subst hsm
  unfold owesE sdPost swPre swPost
  iintro ⟨#HR, ⟨Hc, Hzc⟩, Hat, ⟨%W, HO⟩⟩ Hk
  iapply (Rounds.wp_wait_rest_token 𝒱₀ ER (Rd m ρ) (c : Thread nD τ) none (κ := K (c, some (1, k)))
      (wpE_waitDma2_eq 𝒱₀ (c : Thread nD τ) none Set.univ) (Set.mem_univ _) () (O := 0) (W := W) (R := 0) (m := 0) (T := ∅)
      (by rw [Nat.zero_add, expect_cell m ρ c (some (1, k)) (live_slot 1 hk)]; rfl)) $$ [Hc HO Hat]
  · isplitr; · iapply (records_inv m ρ K (c, some (1, k))); iexact HR
    isplitl [Hc]; · iexact Hc
    isplitl [HO]; · iexact HO
    isplitr; · rw [MayWait_zero]; iempintro
    iexact Hat
  iintro ⟨HO, Hat, -, Hpay⟩
  ihave Hs := (Entails.of_eq (rest_cell m ρ c (some (1, k)) (live_slot 1 hk))) $$ Hpay
  imod (Rounds.cell_close ER (Rd m ρ) (Set.mem_univ (K (c, some (1, k)))) (fun h => h) (R := 0 + 1) (duties_later m ρ (sendCell k c))) $$ [Hat] with Hz
  · isplitr; · iapply (records_inv m ρ K (c, some (1, k))); iexact HR
    iexact Hat
  iapply Hk
  isplitl [HO]; · iexists _; iexact HO
  isplitl [Hs]; · dsimp only [pay]; iexact Hs
  isplitl [Hz]; · iexact Hz
  iexact Hzc

/-- A load of slot `k` reads its contents, laid out as a one-slot vector. -/
theorem read_slot (k : Slot) (f : (cc0_scratch1 : Ref sig .tc).ty.Contents (Elt F)) :
    accM.view.readAt (Elt F) (slotR k).toLoadRect f = asSlot ((slotM k).view.read (Elt F) f) := by
  funext j
  show _ = accM.view.readAt (Elt F) (slotR k).toLoadRect f (Shape.reshapeEquiv _ ((Shape.reshapeEquiv _).symm j))
  rw [Equiv.apply_symm_apply]

/-- Loading slot `k` after its landing. -/
theorem step_loadSlot (c : Dev nD) (k : Slot) (o : Fin 3 → ℕ) (ho : o = ![k.val, 0, 0]) {i : ∀ a, o a + S1x32x256.size a ≤ S8x32x256.size a} {hl}
    {α : Type} {Q : α → sProp 𝕄} {kont : Vec F S1x32x256 .bf16 → Prog (TpuEff nD τ sig (Elt F) Λ₀ .tc) α} :
    rvPost m ρ c k ⊢ iprop((rvPost m ρ c k -∗ wpc c (kont (slotVal m ρ c k)) Q)
        -∗ wpc c (.op (.load accM (Rect.unit (s := S8x32x256) o S1x32x256.size i).toLoadRect hl) kont) Q) := by
  subst ho
  unfold rvPost slotGot slotPts
  iintro ⟨⟨%f, %hf, Hs⟩, Hz⟩ Hk
  iapply (wp_load 𝒱₀ (c : Thread nD τ) none Set.univ (m := accM) (f := f) (S := (slotM k).view.set)
    (show accM.view.setOn (slotR k).set ⊆ ((accM.view.slice (slotR k)).reshape S32x256 squeezes_S1x32x256_S32x256.numel_eq).set from by
      rw [View.set_reshape, View.set_slice]; exact subset_rfl)) $$ Hs
  iintro Hs
  rw [read_slot, hf]
  iapply Hk
  isplitl [Hs]
  · iexists f
    isplitr; · ipureintro; exact hf
    iexact Hs
  iexact Hz

/-- Loading the rows of block `t` of the device's own partial result. -/
theorem step_loadRows (c : Dev nD) (t : Slot) (o : Fin 2 → ℕ) (ho : o = ![32 * t.val, 0]) {i : ∀ a, o a + S32x256.size a ≤ S256x256.size a} {hl}
    {α : Type} {Q : α → sProp 𝕄} {kont : Vec F S32x256 .bf16 → Prog (TpuEff nD τ sig (Elt F) Λ₀ .tc) α} :
    rowPts m ρ c t ⊢ iprop((rowPts m ρ c t -∗ wpc c (kont (rowsOf m ρ c t)) Q)
        -∗ wpc c (.op (.load partM (Rect.unit (s := S256x256) o S32x256.size i).toLoadRect hl) kont) Q) := by
  subst ho
  unfold rowPts
  iintro Hs Hk
  iapply (wp_load 𝒱₀ (c : Thread nD τ) none Set.univ (m := partM) (f := part m ρ c) (S := (rowM t).view.set)
    (show partM.view.setOn (rowR t).set ⊆ (partM.view.slice (rowR t)).set from by rw [View.set_slice]; exact subset_rfl)) $$ Hs
  iintro Hs
  iapply Hk
  iexact Hs

end Cert.Moe

end
-- ==== Proof.Parts.lean ====
/-
# Parts: the kernel's parts, run one after the other

The printed kernel is a chain of eleven parts and a tail. Each theorem here runs one part: from what it needs to what
it leaves, its result handed to the rest of the chain.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ)

/-! ## Devices, offsets and semaphores as the kernel computes them -/

theorem dev_sub (c : Dev nD) (k : Slot) {v : ℕ} {h : v < nD} (hv : v = (c.val + (8 - k.val)) % 8) : (⟨v, h⟩ : Dev nD) = c - k := by
  subst hv; revert c k; decide
theorem dev_add (c : Dev nD) (k : Slot) {v : ℕ} {h : v < nD} (hv : v = (c.val + k.val) % 8) : (⟨v, h⟩ : Dev nD) = c + k := by
  subst hv; revert c k; decide
theorem off1 (c : Dev nD) (r : Fin 7) (k : Slot) (hk : k.val = r.val + 1) :
    k0_off1 c (BitVec.ofNat 32 (1 + r.val)) = ![32 * (c + k).val, 0] := by
  rw [k0_off1_eq]
  have : (c.val + r.val + 1) % 8 = (c + k).val := by rw [add_assoc, ← hk]; rfl
  rw [this]

theorem inbSem (k : Slot) : ∀ a, (![k.val] : Fin 1 → Nat) a + S1.size a ≤ S8.size a := by revert k; decide

theorem sem_credit (k : Slot) :
    (((cc0_scratch4 : Sems sig S8).slice (Rect.unit (s := S8) ![k.val] S1.size (inbSem k))).squeeze S_ squeezes_S1_S_).sem = creditS k := by
  revert k; decide +kernel
theorem sem_send (k : Slot) :
    (((cc0_scratch2 : DmaSems sig S8).slice (Rect.unit (s := S8) ![k.val] S1.size (inbSem k))).squeeze S_ squeezes_S1_S_).sem = sendS k := by
  revert k; decide +kernel
theorem sem_recv (k : Slot) :
    (((cc0_scratch3 : DmaSems sig S8).slice (Rect.unit (s := S8) ![k.val] S1.size (inbSem k))).squeeze S_ squeezes_S1_S_).sem = recvS k := by
  revert k; decide +kernel

/-! ## The staged operands -/

/-- The staging buffers of device `c`, each holding its operand. -/
def xPts (c : Dev nD) : sProp 𝕄 := ((c : Thread nD τ).loc cc0_stg0_0) ↦{fullShare} xst m ρ c
def rwPts (c : Dev nD) : sProp 𝕄 := ((c : Thread nD τ).loc cc0_stg1_0) ↦{fullShare} rwst m ρ c
def ixPts (c : Dev nD) : sProp 𝕄 := ((c : Thread nD τ).loc cc0_stg2_0) ↦{fullShare} ixst m ρ c
def ewPts (c : Dev nD) : sProp 𝕄 := ((c : Thread nD τ).loc cc0_stg3_0) ↦{fullShare} ewst m ρ c
/-- The result's staging buffer at contents `f`. -/
def outPts (c : Dev nD) (f : Buf (Elt F) ((c : Thread nD τ).loc cc0_stg4_0)) : sProp 𝕄 := ((c : Thread nD τ).loc cc0_stg4_0) ↦{fullShare} f
/-- The buffer of the partial result at contents `f`. -/
def partPts (c : Dev nD) (f : Buf (Elt F) ((c : Thread nD τ).loc cc0_scratch0)) : sProp 𝕄 := ((c : Thread nD τ).loc cc0_scratch0) ↦{fullShare} f

theorem hz : (![0, 0] : Fin 2 → Nat) = fun _ => 0 := funext fun a => by fin_cases a <;> rfl

/-- Storing a whole block in the partial result's buffer leaves that block. -/
theorem write_part (f : Vec F S256x256 .bf16) (w : Vec F S256x256 .bf16) :
    (partM.access (Rect.unit (s := S256x256) ![0, 0] S256x256.size inb_S256x256_S256x256_0_0)).write (Elt F) f w Finset.univ = w :=
  Memref.write_access_unit_zero_univ (Elt F) cc0_scratch0 hz _ f w

/-- Storing a whole block in the result's buffer leaves that block. -/
theorem write_out (f : Vec F S32x256 .f32) (w : Vec F S32x256 .f32) :
    (outM.access (Rect.unit (s := S32x256) ![0, 0] S32x256.size inb_S32x256_S32x256_0_0)).write (Elt F) f w Finset.univ = w :=
  Memref.write_access_unit_zero_univ (Elt F) cc0_stg4_0 hz _ f w

/-- Loading all tokens gives the staged tokens. -/
theorem read_x (f : Vec F S256x128 .bf16) :
    xM.view.readAt (Elt F) (Rect.unit (s := S256x128) ![0, 0] S256x128.size inb_S256x128_S256x128_0_0).toLoadRect f = f :=
  Memref.readAt_unit_zero (Elt F) cc0_stg0_0 hz _ f

/-- Loading the whole router gives the staged router. -/
theorem read_rw (f : Vec F S128x16 .bf16) :
    rwM.view.readAt (Elt F) (Rect.unit (s := S128x16) ![0, 0] S128x16.size inb_S128x16_S128x16_0_0).toLoadRect f = f :=
  Memref.readAt_unit_zero (Elt F) cc0_stg1_0 hz _ f

/-! ## The parts -/

theorem part1 (c : Dev nD) (Q : (Σ' (d0 : Dev nD) (v2 : BitVec 32) (v25 : BitVec 32), BitVec 32) → sProp 𝕄) :
    iprop(records m ρ K ∗ levAts L lv ∗ (dutyTok ER (barCell c) 0 () ∗ cred (tallyAt (barCell c) () 1) ∗ atPos ER (barCell c) 0 ∅ 0)
        ∗ sigPre c 1 ∗ sigPre c 2 ∗ sigPre c 3 ∗ owesE c (O₀ c)
        ∗ ((owesE c (oC c 4) ∗ semVal (barCell c) 0) -∗ Q ⟨c, w2 c, Scalar.subi (w2 c) 4#32, 8#32⟩))
      ⊢ wpc c (k0_part1 xM (Memref.isWhole_whole _) rwM (Memref.isWhole_whole _) ixM (Memref.isWhole_whole _) ewM (Memref.isWhole_whole _)
          outM (Memref.isWhole_whole _) partM (Memref.isWhole_whole _) accM (Memref.isWhole_whole _) cc0_scratch2 cc0_scratch3 cc0_scratch4) Q := by
  rw [k0_part1_eq_skeleton]; unfold k0_part1_skel
  simp only [semSignalWord, semWaitWord, semSignalHereWord, Prog.lift, Prog.bind_op, Prog.bind_ret, Prog.pure_eq_ret, wp_deviceId]
  iintro ⟨#HR, #Hlev, ⟨Hb1, Hb2, Hb3⟩, H1, H2, H3, HO, Hk⟩
  iapply (step_barSignal m ρ K c) $$ [Hb1 HO]
  · isplitr; · iexact HR
    isplitl [Hb1] <;> iassumption
  iintro HO
  iapply (step_barWait m ρ K c) $$ [Hb2 Hb3 HO]
  · isplitr; · iexact HR
    isplitr; · iexact Hlev
    isplitl [Hb2]; · iexact Hb2
    isplitl [Hb3] <;> iassumption
  iintro ⟨HO, Hz⟩
  iapply (step_signal m ρ K c _ 1 6 _ (by decide) rfl (dev_sub c 1 (k0_dev1_eq c)) (sem_credit 1)) $$ [H1 HO]
  · isplitr; · iexact HR
    isplitl [H1] <;> iassumption
  iintro HO
  iapply (step_signal m ρ K c _ 2 5 _ (by decide) rfl (dev_sub c 2 (k0_dev2_eq c)) (sem_credit 2)) $$ [H2 HO]
  · isplitr; · iexact HR
    isplitl [H2] <;> iassumption
  iintro HO
  iapply (step_signal m ρ K c _ 3 4 _ (by decide) rfl (dev_sub c 3 (k0_dev3_eq c)) (sem_credit 3)) $$ [H3 HO]
  · isplitr; · iexact HR
    isplitl [H3] <;> iassumption
  iintro HO
  unfold wpc; rw [wp_ret]; imodintro
  iapply Hk
  isplitl [HO] <;> iassumption

theorem part2 (c : Dev nD) (v2 v25 c8 : BitVec 32) (Q : Vec F S256x128 .bf16 → sProp 𝕄) :
    iprop(records m ρ K ∗ sigPre c 4 ∗ sigPre c 5 ∗ sigPre c 6 ∗ sigPre c 7 ∗ owesE c (oC c 4) ∗ xPts m ρ c
        ∗ ((owesE c (oR c 7) ∗ xPts m ρ c) -∗ Q (xst m ρ c)))
      ⊢ wpc c (k0_part2 xM (Memref.isWhole_whole _) rwM (Memref.isWhole_whole _) ixM (Memref.isWhole_whole _) ewM (Memref.isWhole_whole _)
          outM (Memref.isWhole_whole _) partM (Memref.isWhole_whole _) accM (Memref.isWhole_whole _) cc0_scratch2 cc0_scratch3 cc0_scratch4 c v2 v25 c8) Q := by
  rw [k0_part2_eq_skeleton]; unfold k0_part2_skel
  simp only [semSignalWord, semWaitWord, Prog.lift, Prog.bind_op, Prog.bind_ret, Prog.pure_eq_ret]
  iintro ⟨#HR, H4, H5, H6, H7, HO, Hx, Hk⟩
  iapply (step_signal m ρ K c _ 4 3 _ (by decide) rfl (dev_sub c 4 (k0_dev4_eq c)) (sem_credit 4)) $$ [H4 HO]
  · isplitr; · iexact HR
    isplitl [H4] <;> iassumption
  iintro HO
  iapply (step_signal m ρ K c _ 5 2 _ (by decide) rfl (dev_sub c 5 (k0_dev5_eq c)) (sem_credit 5)) $$ [H5 HO]
  · isplitr; · iexact HR
    isplitl [H5] <;> iassumption
  iintro HO
  iapply (step_signal m ρ K c _ 6 1 _ (by decide) rfl (dev_sub c 6 (k0_dev6_eq c)) (sem_credit 6)) $$ [H6 HO]
  · isplitr; · iexact HR
    isplitl [H6] <;> iassumption
  iintro HO
  iapply (step_signal m ρ K c _ 7 0 _ (by decide) rfl (dev_sub c 7 (k0_dev7_eq c)) (sem_credit 7)) $$ [H7 HO]
  · isplitr; · iexact HR
    isplitl [H7] <;> iassumption
  iintro HO
  rw [oC_zero]
  unfold xPts
  iapply (wp_load 𝒱₀ (c : Thread nD τ) none Set.univ (m := xM) (Finset.subset_univ _)) $$ Hx; iintro Hx
  rw [read_x]
  rw [wp_ret]; imodintro
  iapply Hk
  isplitl [HO] <;> iassumption

theorem part3 (c : Dev nD) (v2 : BitVec 32) (Q : (Σ' (v54 : FVec F S256x128 .bf16) (v65 : IVec S256x1 32) (v67 : IVec S256x1 32) (v73 : FVec F S256x1 .f32) (v79 : FVec F S256x1 .f32) (v80 : FVec F S256x1 .f32) (v81 : FVec F S256x256 .f32), FVec F S256x1 .f32) → sProp 𝕄) :
    iprop(rwPts m ρ c ∗ ixPts m ρ c
        ∗ ((rwPts m ρ c ∗ ixPts m ρ c) -∗ Q ⟨k0_pay1 (xst m ρ c), k0_pay3 (col0 m ρ c), k0_pay4 (col1 m ρ c),
            k0_pay5 (xst m ρ c) (rwst m ρ c) (col0 m ρ c), k0_pay6 (xst m ρ c) (rwst m ρ c) (col1 m ρ c),
            k0_pay7 (xst m ρ c) (rwst m ρ c) (col0 m ρ c) (col1 m ρ c), k0_pay8,
            k0_pay9 v2 (xst m ρ c) (rwst m ρ c) (col0 m ρ c) (col1 m ρ c)⟩))
      ⊢ wpc c (k0_part3 xM (Memref.isWhole_whole _) rwM (Memref.isWhole_whole _) ixM (Memref.isWhole_whole _) ewM (Memref.isWhole_whole _)
          outM (Memref.isWhole_whole _) partM (Memref.isWhole_whole _) accM (Memref.isWhole_whole _) cc0_scratch2 cc0_scratch3 cc0_scratch4 v2 (xst m ρ c)) Q := by
  rw [k0_part3_eq_skeleton]; unfold k0_part3_skel
  simp only [semSignalWord, semWaitWord, Prog.lift, Prog.bind_op, Prog.bind_ret, Prog.pure_eq_ret]
  unfold rwPts ixPts
  iintro ⟨Hw, Hi, Hk⟩
  iapply (wp_load 𝒱₀ (c : Thread nD τ) none Set.univ (m := rwM) (Finset.subset_univ _)) $$ Hw; iintro Hw
  rw [read_rw]
  iapply (wp_load 𝒱₀ (c : Thread nD τ) none Set.univ (m := ixM) (Finset.subset_univ _)) $$ Hi; iintro Hi
  iapply (wp_load 𝒱₀ (c : Thread nD τ) none Set.univ (m := ixM) (Finset.subset_univ _)) $$ Hi; iintro Hi
  rw [wp_ret]; imodintro
  unfold col0 col1
  iapply Hk
  isplitl [Hw] <;> iassumption

theorem part4 (c : Dev nD) (f : Buf (Elt F) ((c : Thread nD τ).loc cc0_scratch0)) (Q : BitVec 32 → sProp 𝕄) :
    iprop(records m ρ K ∗ levAts L lv ∗ ewPts m ρ c ∗ partPts c f ∗ crPre c 1 ∗ owesE c (oR c 7)
        ∗ (∀ v, (ewPts m ρ c ∗ partPts c (part m ρ c) ∗ owesE c (oR c 7) ∗ crPost c 1) -∗ Q v))
      ⊢ wpc c (k0_part4 xM (Memref.isWhole_whole _) rwM (Memref.isWhole_whole _) ixM (Memref.isWhole_whole _) ewM (Memref.isWhole_whole _)
          outM (Memref.isWhole_whole _) partM (Memref.isWhole_whole _) accM (Memref.isWhole_whole _) cc0_scratch2 cc0_scratch3 cc0_scratch4 (w2 c) (k0_pay1 (xst m ρ c)) (k0_pay3 (col0 m ρ c)) (k0_pay4 (col1 m ρ c))
            (k0_pay5 (xst m ρ c) (rwst m ρ c) (col0 m ρ c)) (k0_pay6 (xst m ρ c) (rwst m ρ c) (col1 m ρ c))
            (k0_pay7 (xst m ρ c) (rwst m ρ c) (col0 m ρ c) (col1 m ρ c)) k0_pay8
            (k0_pay9 (w2 c) (xst m ρ c) (rwst m ρ c) (col0 m ρ c) (col1 m ρ c))) Q := by
  rw [k0_part4_eq_skeleton]; unfold k0_part4_skel
  simp only [semSignalWord, semWaitWord, Prog.lift, Prog.bind_op, Prog.bind_ret, Prog.pure_eq_ret]
  unfold ewPts partPts
  iintro ⟨#HR, #Hlev, Hw, Hp, Hc1, HO, Hk⟩
  iapply (wp_load 𝒱₀ (c : Thread nD τ) none Set.univ (m := ewM) (Finset.subset_univ _)) $$ Hw; iintro Hw
  iapply (wp_load 𝒱₀ (c : Thread nD τ) none Set.univ (m := ewM) (Finset.subset_univ _)) $$ Hw; iintro Hw
  iapply (wp_load 𝒱₀ (c : Thread nD τ) none Set.univ (m := partM) (Finset.subset_univ _)) $$ Hp; iintro Hp
  iapply (wp_store 𝒱₀ (c : Thread nD τ) none Set.univ (m := partM) (r := Rect.unit (s := S256x256) ![0, 0] S256x256.size inb_S256x256_S256x256_0_0) (Mk := Finset.univ) (Finset.subset_univ _)) $$ Hp; iintro Hp
  rw [write_part]
  iapply (step_credit m ρ K c 1 7 _ (by decide) (sem_credit 1)) $$ [Hc1 HO]
  · isplitr; · iexact HR
    isplitr; · iexact Hlev
    isplitl [Hc1] <;> iassumption
  iintro ⟨HO, Hc1⟩
  unfold wpc; rw [wp_ret]; imodintro
  iapply Hk
  isplitl [Hw]; · iexact Hw
  isplitl [Hp]; · unfold part ex0 ex1; iexact Hp
  isplitl [HO] <;> iassumption

theorem part5 (c : Dev nD) (v2 : BitVec 32) (Q : (Σ' (_ : BitVec 32), BitVec 32) → sProp 𝕄) :
    iprop(records m ρ K ∗ levAts L lv ∗ sdPre m ρ c 1 ∗ crPost c 1 ∗ sdPre m ρ c 2 ∗ crPre c 2 ∗ crPre c 3 ∗ owesE c (oR c 7)
        ∗ (∀ v, (owesE c (oR c 5) ∗ sdPost c 1 ∗ sdPost c 2 ∗ crPost c 3) -∗ Q v))
      ⊢ wpc c (k0_part5 xM (Memref.isWhole_whole _) rwM (Memref.isWhole_whole _) ixM (Memref.isWhole_whole _) ewM (Memref.isWhole_whole _)
          outM (Memref.isWhole_whole _) partM (Memref.isWhole_whole _) accM (Memref.isWhole_whole _) cc0_scratch2 cc0_scratch3 cc0_scratch4 c v2) Q := by
  rw [k0_part5_eq_skeleton]; unfold k0_part5_skel
  simp only [semSignalWord, semWaitWord, Prog.lift, Prog.bind_op, Prog.bind_ret, Prog.pure_eq_ret]
  iintro ⟨#HR, #Hlev, Hs1, Hc1, Hs2, Hc2, Hc3, HO, Hk⟩
  iapply (step_send m ρ K c _ 1 6 _ _ _ _ (by decide) rfl (dev_add c 1 (k0_dev8_eq c)) (sem_send 1) (sem_recv 1) rfl (off1 c 0 1 rfl)) $$ [Hs1 Hc1 HO]
  · isplitr; · iexact HR
    isplitl [Hs1]; · iexact Hs1
    isplitl [Hc1] <;> iassumption
  iintro ⟨HO, Hs1⟩
  iapply (step_credit m ρ K c 2 6 _ (by decide) (sem_credit 2)) $$ [Hc2 HO]
  · isplitr; · iexact HR
    isplitr; · iexact Hlev
    isplitl [Hc2] <;> iassumption
  iintro ⟨HO, Hc2⟩
  iapply (step_send m ρ K c _ 2 5 _ _ _ _ (by decide) rfl (dev_add c 2 (k0_dev9_eq c)) (sem_send 2) (sem_recv 2) rfl (off1 c 1 2 rfl)) $$ [Hs2 Hc2 HO]
  · isplitr; · iexact HR
    isplitl [Hs2]; · iexact Hs2
    isplitl [Hc2] <;> iassumption
  iintro ⟨HO, Hs2⟩
  iapply (step_credit m ρ K c 3 5 _ (by decide) (sem_credit 3)) $$ [Hc3 HO]
  · isplitr; · iexact HR
    isplitr; · iexact Hlev
    isplitl [Hc3] <;> iassumption
  iintro ⟨HO, Hc3⟩
  unfold wpc; rw [wp_ret]; imodintro
  iapply Hk
  isplitl [HO]; · iexact HO
  isplitl [Hs1]; · iexact Hs1
  isplitl [Hs2] <;> iassumption

theorem part6 (c : Dev nD) (v2 : BitVec 32) (Q : (Σ' (_ : BitVec 32), BitVec 32) → sProp 𝕄) :
    iprop(records m ρ K ∗ levAts L lv ∗ sdPre m ρ c 3 ∗ crPost c 3 ∗ sdPre m ρ c 4 ∗ crPre c 4 ∗ crPre c 5 ∗ owesE c (oR c 5)
        ∗ (∀ v, (owesE c (oR c 3) ∗ sdPost c 3 ∗ sdPost c 4 ∗ crPost c 5) -∗ Q v))
      ⊢ wpc c (k0_part6 xM (Memref.isWhole_whole _) rwM (Memref.isWhole_whole _) ixM (Memref.isWhole_whole _) ewM (Memref.isWhole_whole _)
          outM (Memref.isWhole_whole _) partM (Memref.isWhole_whole _) accM (Memref.isWhole_whole _) cc0_scratch2 cc0_scratch3 cc0_scratch4 c v2) Q := by
  rw [k0_part6_eq_skeleton]; unfold k0_part6_skel
  simp only [semSignalWord, semWaitWord, Prog.lift, Prog.bind_op, Prog.bind_ret, Prog.pure_eq_ret]
  iintro ⟨#HR, #Hlev, Hs3, Hc3, Hs4, Hc4, Hc5, HO, Hk⟩
  iapply (step_send m ρ K c _ 3 4 _ _ _ _ (by decide) rfl (dev_add c 3 (k0_dev10_eq c)) (sem_send 3) (sem_recv 3) rfl (off1 c 2 3 rfl)) $$ [Hs3 Hc3 HO]
  · isplitr; · iexact HR
    isplitl [Hs3]; · iexact Hs3
    isplitl [Hc3] <;> iassumption
  iintro ⟨HO, Hs3⟩
  iapply (step_credit m ρ K c 4 4 _ (by decide) (sem_credit 4)) $$ [Hc4 HO]
  · isplitr; · iexact HR
    isplitr; · iexact Hlev
    isplitl [Hc4] <;> iassumption
  iintro ⟨HO, Hc4⟩
  iapply (step_send m ρ K c _ 4 3 _ _ _ _ (by decide) rfl (dev_add c 4 (k0_dev11_eq c)) (sem_send 4) (sem_recv 4) rfl (off1 c 3 4 rfl)) $$ [Hs4 Hc4 HO]
  · isplitr; · iexact HR
    isplitl [Hs4]; · iexact Hs4
    isplitl [Hc4] <;> iassumption
  iintro ⟨HO, Hs4⟩
  iapply (step_credit m ρ K c 5 3 _ (by decide) (sem_credit 5)) $$ [Hc5 HO]
  · isplitr; · iexact HR
    isplitr; · iexact Hlev
    isplitl [Hc5] <;> iassumption
  iintro ⟨HO, Hc5⟩
  unfold wpc; rw [wp_ret]; imodintro
  iapply Hk
  isplitl [HO]; · iexact HO
  isplitl [Hs3]; · iexact Hs3
  isplitl [Hs4] <;> iassumption

theorem part7 (c : Dev nD) (v2 : BitVec 32) (Q : (Σ' (_ : BitVec 32), BitVec 32) → sProp 𝕄) :
    iprop(records m ρ K ∗ levAts L lv ∗ sdPre m ρ c 5 ∗ crPost c 5 ∗ sdPre m ρ c 6 ∗ crPre c 6 ∗ crPre c 7 ∗ owesE c (oR c 3)
        ∗ (∀ v, (owesE c (oR c 1) ∗ sdPost c 5 ∗ sdPost c 6 ∗ crPost c 7) -∗ Q v))
      ⊢ wpc c (k0_part7 xM (Memref.isWhole_whole _) rwM (Memref.isWhole_whole _) ixM (Memref.isWhole_whole _) ewM (Memref.isWhole_whole _)
          outM (Memref.isWhole_whole _) partM (Memref.isWhole_whole _) accM (Memref.isWhole_whole _) cc0_scratch2 cc0_scratch3 cc0_scratch4 c v2) Q := by
  rw [k0_part7_eq_skeleton]; unfold k0_part7_skel
  simp only [semSignalWord, semWaitWord, Prog.lift, Prog.bind_op, Prog.bind_ret, Prog.pure_eq_ret]
  iintro ⟨#HR, #Hlev, Hs5, Hc5, Hs6, Hc6, Hc7, HO, Hk⟩
  iapply (step_send m ρ K c _ 5 2 _ _ _ _ (by decide) rfl (dev_add c 5 (k0_dev12_eq c)) (sem_send 5) (sem_recv 5) rfl (off1 c 4 5 rfl)) $$ [Hs5 Hc5 HO]
  · isplitr; · iexact HR
    isplitl [Hs5]; · iexact Hs5
    isplitl [Hc5] <;> iassumption
  iintro ⟨HO, Hs5⟩
  iapply (step_credit m ρ K c 6 2 _ (by decide) (sem_credit 6)) $$ [Hc6 HO]
  · isplitr; · iexact HR
    isplitr; · iexact Hlev
    isplitl [Hc6] <;> iassumption
  iintro ⟨HO, Hc6⟩
  iapply (step_send m ρ K c _ 6 1 _ _ _ _ (by decide) rfl (dev_add c 6 (k0_dev13_eq c)) (sem_send 6) (sem_recv 6) rfl (off1 c 5 6 rfl)) $$ [Hs6 Hc6 HO]
  · isplitr; · iexact HR
    isplitl [Hs6]; · iexact Hs6
    isplitl [Hc6] <;> iassumption
  iintro ⟨HO, Hs6⟩
  iapply (step_credit m ρ K c 7 1 _ (by decide) (sem_credit 7)) $$ [Hc7 HO]
  · isplitr; · iexact HR
    isplitr; · iexact Hlev
    isplitl [Hc7] <;> iassumption
  iintro ⟨HO, Hc7⟩
  unfold wpc; rw [wp_ret]; imodintro
  iapply Hk
  isplitl [HO]; · iexact HO
  isplitl [Hs5]; · iexact Hs5
  isplitl [Hs6] <;> iassumption

theorem part8 (c : Dev nD) (v2 v123 v137 : BitVec 32) (Q : (Σ' (_ : FVec F S32x256 .f32), FVec F S32x256 .bf16) → sProp 𝕄) :
    iprop(records m ρ K ∗ sdPre m ρ c 7 ∗ crPost c 7 ∗ rowPts m ρ c c ∗ rvPre c 1 ∗ rvPre c 2 ∗ owesE c (oR c 1)
        ∗ ((owesE c 0 ∗ sdPost c 7 ∗ rowPts m ρ c c ∗ rvPost m ρ c 1 ∗ rvPost m ρ c 2)
          -∗ Q ⟨k0_pay11 (rowsOf m ρ c c) (slotVal m ρ c 1), k0_pay12 (slotVal m ρ c 2)⟩))
      ⊢ wpc c (k0_part8 xM (Memref.isWhole_whole _) rwM (Memref.isWhole_whole _) ixM (Memref.isWhole_whole _) ewM (Memref.isWhole_whole _)
          outM (Memref.isWhole_whole _) partM (Memref.isWhole_whole _) accM (Memref.isWhole_whole _) cc0_scratch2 cc0_scratch3 cc0_scratch4 c v2 v123 v137) Q := by
  rw [k0_part8_eq_skeleton]; unfold k0_part8_skel
  simp only [semSignalWord, semWaitWord, Prog.lift, Prog.bind_op, Prog.bind_ret, Prog.pure_eq_ret]
  iintro ⟨#HR, Hs7, Hc7, Hrow, Hr1, Hr2, HO, Hk⟩
  iapply (step_send m ρ K c _ 7 0 _ _ _ _ (by decide) rfl (dev_add c 7 (k0_dev14_eq c)) (sem_send 7) (sem_recv 7) rfl (off1 c 6 7 rfl)) $$ [Hs7 Hc7 HO]
  · isplitr; · iexact HR
    isplitl [Hs7]; · iexact Hs7
    isplitl [Hc7] <;> iassumption
  iintro ⟨HO, Hs7⟩
  iapply (step_loadRows m ρ c c _ (k0_off2_eq c)) $$ Hrow; iintro Hrow
  rw [oR_zero]
  iapply (step_recv m ρ K c 1 _ (by decide) (sem_recv 1)) $$ [Hr1 HO]
  · isplitr; · iexact HR
    isplitl [Hr1] <;> iassumption
  iintro ⟨HO, Hr1⟩
  iapply (step_loadSlot m ρ c 1 _ rfl) $$ Hr1; iintro Hr1
  iapply (step_recv m ρ K c 2 _ (by decide) (sem_recv 2)) $$ [Hr2 HO]
  · isplitr; · iexact HR
    isplitl [Hr2] <;> iassumption
  iintro ⟨HO, Hr2⟩
  iapply (step_loadSlot m ρ c 2 _ rfl) $$ Hr2; iintro Hr2
  unfold wpc; rw [wp_ret]; imodintro
  iapply Hk
  isplitl [HO]; · iexact HO
  isplitl [Hs7]; · iexact Hs7
  isplitl [Hrow]; · iexact Hrow
  isplitl [Hr1] <;> iassumption

theorem part9 (c : Dev nD) (v151 v165 v179 : BitVec 32) (v234 : FVec F S32x256 .f32) (v243 : FVec F S32x256 .bf16) (Q : FVec F S32x256 .f32 → sProp 𝕄) :
    iprop(records m ρ K ∗ rvPre c 3 ∗ rvPre c 4 ∗ owesE c 0
        ∗ ((owesE c 0 ∗ rvPost m ρ c 3 ∗ rvPost m ρ c 4) -∗ Q (k0_pay13 v234 v243 (slotVal m ρ c 3) (slotVal m ρ c 4))))
      ⊢ wpc c (k0_part9 xM (Memref.isWhole_whole _) rwM (Memref.isWhole_whole _) ixM (Memref.isWhole_whole _) ewM (Memref.isWhole_whole _)
          outM (Memref.isWhole_whole _) partM (Memref.isWhole_whole _) accM (Memref.isWhole_whole _) cc0_scratch2 cc0_scratch3 cc0_scratch4 c v151 v165 v179 v234 v243) Q := by
  rw [k0_part9_eq_skeleton]; unfold k0_part9_skel
  simp only [semSignalWord, semWaitWord, Prog.lift, Prog.bind_op, Prog.bind_ret, Prog.pure_eq_ret]
  iintro ⟨#HR, Hr3, Hr4, HO, Hk⟩
  iapply (step_recv m ρ K c 3 _ (by decide) (sem_recv 3)) $$ [Hr3 HO]
  · isplitr; · iexact HR
    isplitl [Hr3] <;> iassumption
  iintro ⟨HO, Hr3⟩
  iapply (step_loadSlot m ρ c 3 _ rfl) $$ Hr3; iintro Hr3
  iapply (step_recv m ρ K c 4 _ (by decide) (sem_recv 4)) $$ [Hr4 HO]
  · isplitr; · iexact HR
    isplitl [Hr4] <;> iassumption
  iintro ⟨HO, Hr4⟩
  iapply (step_loadSlot m ρ c 4 _ rfl) $$ Hr4; iintro Hr4
  unfold wpc; rw [wp_ret]; imodintro
  iapply Hk
  isplitl [HO]; · iexact HO
  isplitl [Hr3] <;> iassumption

theorem part10 (c : Dev nD) (v193 v207 : BitVec 32) (v267 : FVec F S32x256 .f32) (f : Buf (Elt F) ((c : Thread nD τ).loc cc0_stg4_0)) (Q : FVec F S32x256 .f32 → sProp 𝕄) :
    iprop(records m ρ K ∗ rvPre c 5 ∗ rvPre c 6 ∗ rvPre c 7 ∗ outPts c f ∗ owesE c 0
        ∗ ((owesE c 0 ∗ rvPost m ρ c 5 ∗ rvPost m ρ c 6 ∗ rvPost m ρ c 7 ∗ outPts c f)
          -∗ Q (k0_pay14 v267 (slotVal m ρ c 5) (slotVal m ρ c 6) (slotVal m ρ c 7))))
      ⊢ wpc c (k0_part10 xM (Memref.isWhole_whole _) rwM (Memref.isWhole_whole _) ixM (Memref.isWhole_whole _) ewM (Memref.isWhole_whole _)
          outM (Memref.isWhole_whole _) partM (Memref.isWhole_whole _) accM (Memref.isWhole_whole _) cc0_scratch2 cc0_scratch3 cc0_scratch4 c v193 v207 v267) Q := by
  rw [k0_part10_eq_skeleton]; unfold k0_part10_skel
  simp only [semSignalWord, semWaitWord, Prog.lift, Prog.bind_op, Prog.bind_ret, Prog.pure_eq_ret]
  unfold outPts
  iintro ⟨#HR, Hr5, Hr6, Hr7, Hout, HO, Hk⟩
  iapply (step_recv m ρ K c 5 _ (by decide) (sem_recv 5)) $$ [Hr5 HO]
  · isplitr; · iexact HR
    isplitl [Hr5] <;> iassumption
  iintro ⟨HO, Hr5⟩
  iapply (step_loadSlot m ρ c 5 _ rfl) $$ Hr5; iintro Hr5
  iapply (step_recv m ρ K c 6 _ (by decide) (sem_recv 6)) $$ [Hr6 HO]
  · isplitr; · iexact HR
    isplitl [Hr6] <;> iassumption
  iintro ⟨HO, Hr6⟩
  iapply (step_loadSlot m ρ c 6 _ rfl) $$ Hr6; iintro Hr6
  iapply (step_recv m ρ K c 7 _ (by decide) (sem_recv 7)) $$ [Hr7 HO]
  · isplitr; · iexact HR
    isplitl [Hr7] <;> iassumption
  iintro ⟨HO, Hr7⟩
  iapply (step_loadSlot m ρ c 7 _ rfl) $$ Hr7; iintro Hr7
  iapply (wp_load 𝒱₀ (c : Thread nD τ) none Set.univ (m := outM) (Finset.subset_univ _)) $$ Hout; iintro Hout
  rw [wp_ret]; imodintro
  iapply Hk
  isplitl [HO]; · iexact HO
  isplitl [Hr5]; · iexact Hr5
  isplitl [Hr6]; · iexact Hr6
  isplitl [Hr7] <;> iassumption

theorem part11 (c : Dev nD) (v300 : FVec F S32x256 .f32) (f : Buf (Elt F) ((c : Thread nD τ).loc cc0_stg4_0)) (Q : PUnit → sProp 𝕄) :
    iprop(records m ρ K ∗ outPts c f ∗ (sdPost c 1 ∗ swPre c 1) ∗ (sdPost c 2 ∗ swPre c 2) ∗ (sdPost c 3 ∗ swPre c 3) ∗ (sdPost c 4 ∗ swPre c 4) ∗ owesE c 0
        ∗ ((owesE c 0 ∗ outPts c v300 ∗ swPost m ρ c 1 ∗ swPost m ρ c 2 ∗ swPost m ρ c 3 ∗ swPost m ρ c 4) -∗ Q ⟨⟩))
      ⊢ wpc c (k0_part11 xM (Memref.isWhole_whole _) rwM (Memref.isWhole_whole _) ixM (Memref.isWhole_whole _) ewM (Memref.isWhole_whole _)
          outM (Memref.isWhole_whole _) partM (Memref.isWhole_whole _) accM (Memref.isWhole_whole _) cc0_scratch2 cc0_scratch3 cc0_scratch4 c v300) Q := by
  rw [k0_part11_eq_skeleton]; unfold k0_part11_skel
  simp only [semSignalWord, semWaitWord, Prog.lift, Prog.bind_op, Prog.bind_ret, Prog.pure_eq_ret]
  unfold outPts
  iintro ⟨#HR, Hout, ⟨Hs1, Hw1⟩, ⟨Hs2, Hw2⟩, ⟨Hs3, Hw3⟩, ⟨Hs4, Hw4⟩, HO, Hk⟩
  iapply (wp_store 𝒱₀ (c : Thread nD τ) none Set.univ (m := outM) (r := Rect.unit (s := S32x256) ![0, 0] S32x256.size inb_S32x256_S32x256_0_0) (Mk := Finset.univ) (Finset.subset_univ _)) $$ Hout; iintro Hout
  rw [write_out]
  iapply (step_sendWait m ρ K c 1 _ (by decide) (sem_send 1)) $$ [Hs1 Hw1 HO]
  · isplitr; · iexact HR
    isplitl [Hs1]; · iexact Hs1
    isplitl [Hw1] <;> iassumption
  iintro ⟨HO, Hs1⟩
  iapply (step_sendWait m ρ K c 2 _ (by decide) (sem_send 2)) $$ [Hs2 Hw2 HO]
  · isplitr; · iexact HR
    isplitl [Hs2]; · iexact Hs2
    isplitl [Hw2] <;> iassumption
  iintro ⟨HO, Hs2⟩
  iapply (step_sendWait m ρ K c 3 _ (by decide) (sem_send 3)) $$ [Hs3 Hw3 HO]
  · isplitr; · iexact HR
    isplitl [Hs3]; · iexact Hs3
    isplitl [Hw3] <;> iassumption
  iintro ⟨HO, Hs3⟩
  iapply (step_sendWait m ρ K c 4 _ (by decide) (sem_send 4)) $$ [Hs4 Hw4 HO]
  · isplitr; · iexact HR
    isplitl [Hs4]; · iexact Hs4
    isplitl [Hw4] <;> iassumption
  iintro ⟨HO, Hs4⟩
  unfold wpc; rw [wp_ret]; imodintro
  iapply Hk
  isplitl [HO]; · iexact HO
  isplitl [Hout]; · iexact Hout
  isplitl [Hs1]; · iexact Hs1
  isplitl [Hs2]; · iexact Hs2
  isplitl [Hs3] <;> iassumption

end Cert.Moe

end
-- ==== Proof.Body.lean ====
/-
# The body of a device

What a device starts from, cut slot by slot into what the parts take; the parts in order; what they leave, put together
again into the scratch buffers and the cells at zero.
-/
module

public import proofs.«01_k».proof.Proof.Parts

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Kd → ℕ)

/-! ## Cutting and joining -/

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- A family over the eight slots, slot by slot. -/
theorem bigSep_slots (Φ : Slot → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A family over all kinds of cell: the barrier, and slot by slot the credit, send and receive cells. -/
theorem bigSep_kinds (Φ : Kd → sProp 𝕄) :
    bigSep Finset.univ Φ = iprop((bigSep Finset.univ fun k : Slot => iprop(Φ (some (0, k)) ∗ Φ (some (1, k)) ∗ Φ (some (2, k)))) ∗ Φ none) := by
  rw [BI.bigSep_univ_equiv (Equiv.optionEquivSumPUnit.{0} (Fin 3 × Slot)).symm Φ, BI.bigSep_univ_sum, BI.bigSep_univ_prod, bigSep_fin3,
    bigSep_sep' Finset.univ (fun k : Slot => Φ (some (0, k))), bigSep_sep' Finset.univ (fun k : Slot => Φ (some (1, k)))]
  congr 1
  exact BI.bigSep_singleton

theorem slot_disjoint (b b' : Slot) (h : b ≠ b') : Disjoint (slotR b).set (slotR b').set :=
  Ring.lead_disjoint (s := S8x32x256) (NB := 8) (0 : Fin 3) 1 (fun k => ![k.val, 0, 0]) S1x32x256.size inbSlot
    (fun k => (Nat.one_mul k.val).symm) rfl b b' h
theorem slot_cover : Finset.univ.biUnion (fun k : Slot => (slotR k).set) = Finset.univ :=
  Ring.lead_cover (s := S8x32x256) (NB := 8) (0 : Fin 3) 1 (fun k => ![k.val, 0, 0]) S1x32x256.size inbSlot
    (fun k => (Nat.one_mul k.val).symm) (by decide) rfl (by decide) rfl
theorem row_disjoint (b b' : Slot) (h : b ≠ b') : Disjoint (rowR b).set (rowR b').set :=
  Ring.lead_disjoint (s := S256x256) (NB := 8) (0 : Fin 2) 32 (fun k => ![32 * k.val, 0]) S32x256.size inbRow
    (fun k => rfl) rfl b b' h
theorem row_cover : Finset.univ.biUnion (fun t : Slot => (rowR t).set) = Finset.univ :=
  Ring.lead_cover (s := S256x256) (NB := 8) (0 : Fin 2) 32 (fun k => ![32 * k.val, 0]) S32x256.size inbRow
    (fun k => rfl) (by decide) rfl (by decide) rfl

omit [FloatOps F] in
/-- The buffer of the slots, cut into the slots. -/
theorem slots_split (c : Dev nD) (f : Buf (Elt F) ((c : Thread nD τ).loc cc0_scratch1)) :
    (((c : Thread nD τ).loc cc0_scratch1) ↦{fullShare} f : sProp 𝕄) = bigSep Finset.univ fun k : Slot => slotPts (F := F) c k f := by
  rw [Ring.pointsTo_blocks (fun k : Slot => (slotR k).set)
    slot_disjoint slot_cover f]
  refine bigSep_congr fun k _ => ?_
  unfold slotPts
  rw [View.set_reshape, View.set_slice_whole]

omit [FloatOps F] in
/-- The slots at any contents join to their buffer at some contents. -/
theorem slots_join (c : Dev nD) (f₀ : Buf (Elt F) ((c : Thread nD τ).loc cc0_scratch1)) :
    (bigSep Finset.univ fun k : Slot => slotAny (F := F) c k)
      ⊢ (iprop(∃ f : Buf (Elt F) ((c : Thread nD τ).loc cc0_scratch1), ((c : Thread nD τ).loc cc0_scratch1) ↦{fullShare} f) : sProp 𝕄) := by
  refine BIBase.Entails.trans (Entails.of_eq (bigSep_congr fun k _ => ?_)) (Ring.pointsTo_blocks_join_exists (fun k : Slot => (slotR k).set)
    slot_disjoint slot_cover f₀)
  unfold slotAny slotPts
  rw [View.set_reshape, View.set_slice_whole]

theorem dev_add_zero (c : Dev nD) : c + (0 : Slot) = c := by revert c; decide
theorem dev_cancel (c t : Dev nD) : c + (t - c) = t := by revert c t; decide
theorem dev_cancel' (c k : Dev nD) : c + k - c = k := by revert c k; decide

/-- The device `k` after `c`, for each `k`: every device once. -/
def plusEquiv (c : Dev nD) : Slot ≃ Dev nD where
  toFun k := c + k
  invFun t := t - c
  left_inv k := dev_cancel' c k
  right_inv t := dev_cancel c t

/-- The partial result, cut into the blocks for the devices `k` after this one. -/
theorem rows_split (c : Dev nD) : partPts c (part m ρ c) = bigSep Finset.univ fun k : Slot => rowPts m ρ c (c + k) := by
  refine Eq.trans ?_ (BI.bigSep_univ_equiv (plusEquiv c) (fun t : Slot => rowPts m ρ c t))
  unfold partPts
  refine (Ring.pointsTo_blocks (ℓ := (c : Thread nD τ).loc cc0_scratch0) (fun t : Slot => (rowR t).set) row_disjoint row_cover
    (part m ρ c)).trans ?_
  refine bigSep_congr fun k _ => ?_
  unfold rowPts
  rw [View.set_slice_whole]

/-! ## Per slot -/

/-- The tokens a device pays with when it sends slot `k`. -/
def sdTok (c : Dev nD) (k : Slot) : sProp 𝕄 := iprop(dutyTok ER (sendCell k c) 0 () ∗ dutyTok ER (recvCell k (c + k)) 0 ())

/-- What the parts take for a live slot. -/
def entry (c : Dev nD) (k : Slot) : sProp 𝕄 :=
  iprop(sigPre (F := F) c k ∗ crPre (F := F) c k ∗ sdTok (F := F) c k ∗ rvPre (F := F) c k ∗ swPre (F := F) c k)

/-- What slot 0 keeps through the body: its memory and its three cells' positions. -/
def idle (c : Dev nD) : sProp 𝕄 :=
  iprop(slotAny (F := F) c 0 ∗ atPos ER (creditCell 0 c) 0 ∅ 0 ∗ atPos ER (sendCell 0 c) 0 ∅ 0 ∗ atPos ER (recvCell 0 c) 0 ∅ 0)

/-- What is left of slot `k`: its memory, the rows sent through it, its three cells at zero. -/
def done (c : Dev nD) (k : Slot) : sProp 𝕄 :=
  iprop(slotAny (F := F) c k ∗ rowPts m ρ c (c + k) ∗ semVal (creditCell k c) 0 ∗ semVal (sendCell k c) 0 ∗ semVal (recvCell k c) 0)

/-- The ghost state and memory of slot `k`, as a device starts with them. -/
def given (c : Dev nD) (k : Slot) : sProp 𝕄 :=
  iprop(slotAny (F := F) c k ∗ unitOf (F := F) c (some (0, k)) ∗ unitOf (F := F) c (some (1, k)) ∗ unitOf (F := F) c (some (2, k)))

omit [FloatOps F] in
theorem given_entry (c : Dev nD) (k : Slot) (hk : k ≠ 0) : given (F := F) c k ⊢ entry c k := by
  unfold given entry unitOf credK sigPre crPre sdTok rvPre swPre tgt
  simp only [if_neg hk]
  iintro ⟨Hs, ⟨A0, T0, C0⟩, ⟨A1, T1, -⟩, A2, T2, C2⟩
  iframe Hs T0 C0 A0 T1 T2 C2 A2 A1

omit [FloatOps F] in
theorem given_idle (c : Dev nD) : given (F := F) c 0 ⊢ idle c := by
  unfold given idle unitOf
  iintro ⟨Hs, ⟨A0, -, -⟩, ⟨A1, -, -⟩, A2, -, -⟩
  iframe Hs A0 A1 A2

theorem done_intro (c : Dev nD) (k : Slot) : iprop(rvPost m ρ c k ∗ swPost m ρ c k) ⊢ done m ρ c k := by
  unfold rvPost swPost done slotGot slotAny
  iintro ⟨⟨⟨%f, -, Hs⟩, V2⟩, Hr, V1, V0⟩
  isplitl [Hs]; · iexists f; iexact Hs
  iframe Hr V0 V1 V2

/-- An idle cell closes at zero. -/
theorem idle_cell (c : Dev nD) (i : Kd) (h : live i = false) :
    iprop(records m ρ K ∗ atPos ER (kcell (c, i)) 0 ∅ 0) ⊢ (iprop(|={Set.univ}=> semVal (kcell (c, i)) 0) : sProp 𝕄) := by
  iintro ⟨HR, Ha⟩
  iapply (Rounds.cell_close ER (Rd m ρ) (Set.mem_univ (K (c, i))) (fun h => h) (R := 0) (fun r _ => duties_idle m ρ c i h r))
  isplitl [HR]; · iapply (records_inv m ρ K (c, i)); iexact HR
  iexact Ha

/-- Slot 0 at the end. -/
theorem idle_done (c : Dev nD) : iprop(records m ρ K ∗ idle c ∗ rowPts m ρ c c) ⊢ (iprop(|={Set.univ}=> done m ρ c 0) : sProp 𝕄) := by
  unfold idle done
  iintro ⟨#HR, ⟨Hs, A0, A1, A2⟩, Hr⟩
  imod (idle_cell m ρ K c (some (0, 0)) rfl) $$ [A0] with V0
  · isplitr; · iexact HR
    iexact A0
  imod (idle_cell m ρ K c (some (1, 0)) rfl) $$ [A1] with V1
  · isplitr; · iexact HR
    iexact A1
  imod (idle_cell m ρ K c (some (2, 0)) rfl) $$ [A2] with V2
  · isplitr; · iexact HR
    iexact A2
  imodintro
  rw [show c + (0 : Slot) = c from dev_add_zero c]
  iframe Hs Hr V0 V1 V2

omit [FloatOps F] in
theorem given_intro (c : Dev nD) (k : Slot) (f : Buf (Elt F) ((c : Thread nD τ).loc cc0_scratch1)) :
    iprop(slotPts (F := F) c k f ∗ unitOf (F := F) c (some (0, k)) ∗ unitOf (F := F) c (some (1, k)) ∗ unitOf (F := F) c (some (2, k)))
      ⊢ given (F := F) c k := by
  unfold given slotAny
  iintro ⟨Hs, Hu⟩
  isplitl [Hs]; · iexists f; iexact Hs
  iexact Hu

/-- What a device starts from, cut. -/
theorem given_all (c : Dev nD) (f : Buf (Elt F) ((c : Thread nD τ).loc cc0_scratch1)) :
    iprop((bigSep Finset.univ fun i => unitOf (F := F) c i) ∗ ((c : Thread nD τ).loc cc0_scratch1) ↦{fullShare} f)
      ⊢ iprop(unitOf (F := F) c none ∗ idle (F := F) c ∗ entry (F := F) c 1 ∗ entry (F := F) c 2 ∗ entry (F := F) c 3 ∗ entry (F := F) c 4 ∗ entry (F := F) c 5
          ∗ entry (F := F) c 6 ∗ entry (F := F) c 7) := by
  rw [bigSep_kinds, slots_split]
  iintro ⟨⟨Hk, Hn⟩, Hf⟩
  isplitl [Hn]; · iexact Hn
  ihave Hg := (show iprop((bigSep Finset.univ fun k : Slot => slotPts (F := F) c k f)
      ∗ bigSep Finset.univ fun k : Slot => iprop(unitOf (F := F) c (some (0, k)) ∗ unitOf (F := F) c (some (1, k)) ∗ unitOf (F := F) c (some (2, k))))
      ⊢ (bigSep Finset.univ fun k : Slot => given (F := F) c k : sProp 𝕄) from by
        rw [← bigSep_sep']
        exact bigSep_mono fun k _ => given_intro c k f) $$ [Hf Hk]
  · isplitl [Hf] <;> iassumption
  ihave Hg := (Entails.of_eq (bigSep_slots fun k : Slot => given (F := F) c k)) $$ Hg
  icases Hg with ⟨H0, H1, H2, H3, H4, H5, H6, H7⟩
  isplitl [H0]; · iapply (given_idle c); iexact H0
  isplitl [H1]; · iapply (given_entry c 1 (by decide)); iexact H1
  isplitl [H2]; · iapply (given_entry c 2 (by decide)); iexact H2
  isplitl [H3]; · iapply (given_entry c 3 (by decide)); iexact H3
  isplitl [H4]; · iapply (given_entry c 4 (by decide)); iexact H4
  isplitl [H5]; · iapply (given_entry c 5 (by decide)); iexact H5
  isplitl [H6]; · iapply (given_entry c 6 (by decide)); iexact H6
  iapply (given_entry c 7 (by decide)); iexact H7

/-- What is left of all slots and of the barrier is the state after the body. -/
theorem done_all (c : Dev nD) : iprop(semVal (barCell c) 0 ∗ bigSep Finset.univ fun k : Slot => done m ρ c k) ⊢ Φ₁ (F := F) c := by
  unfold Φ₁ scratch
  rw [bigSep_kinds]
  unfold done
  rw [bigSep_sep', bigSep_sep']
  iintro ⟨Hb, Hs, Hr, Hv⟩
  isplitl [Hs Hr]
  · isplitl [Hr]
    · iexists (part m ρ c)
      ihave Hp := (Entails.of_eq (rows_split m ρ c).symm) $$ Hr
      unfold partPts
      iexact Hp
    · iapply (slots_join c (fun _ => part m ρ c fun a => ⟨0, by fin_cases a <;> decide⟩)); iexact Hs
  isplitl [Hv]; · iexact Hv
  iexact Hb

/-! ## The body -/

theorem sdPre_intro (c : Dev nD) (k : Slot) : iprop(rowPts m ρ c (c + k) ∗ sdTok (F := F) c k) ⊢ sdPre m ρ c k := by
  unfold sdTok sdPre; iintro H; iexact H

/-- The staging buffers at the body's start. -/
def staged (c : Dev nD) (f : Buf (Elt F) ((c : Thread nD τ).loc cc0_stg4_0)) : sProp 𝕄 :=
  iprop(xPts m ρ c ∗ rwPts m ρ c ∗ ixPts m ρ c ∗ ewPts m ρ c ∗ outPts c f)

set_option maxHeartbeats 1000000 in
/-- The body, part by part. -/
theorem run_body (c : Dev nD) (f1 : Buf (Elt F) ((c : Thread nD τ).loc cc0_scratch0)) (f0 : Buf (Elt F) ((c : Thread nD τ).loc cc0_stg4_0)) (Kt : PUnit → sProp 𝕄) :
    iprop(records m ρ K ∗ levAts L lv ∗ unitOf (F := F) c none ∗ idle (F := F) c
        ∗ entry (F := F) c 1 ∗ entry (F := F) c 2 ∗ entry (F := F) c 3 ∗ entry (F := F) c 4 ∗ entry (F := F) c 5 ∗ entry (F := F) c 6 ∗ entry (F := F) c 7
        ∗ partPts c f1 ∗ staged m ρ c f0 ∗ owesE c (O₀ c)
        ∗ ((Φ₁ (F := F) c ∗ staged m ρ c (outAt m ρ c) ∗ owesE c 0) -∗ Kt ⟨⟩))
      ⊢ wpc c (cc0_body xM (Memref.isWhole_whole _) rwM (Memref.isWhole_whole _) ixM (Memref.isWhole_whole _) ewM (Memref.isWhole_whole _)
            outM (Memref.isWhole_whole _) partM (Memref.isWhole_whole _) accM (Memref.isWhole_whole _) cc0_scratch2 cc0_scratch3 cc0_scratch4) Kt := by
  rw [cc0_body_eq_skeleton]; unfold cc0_body_skel
  simp only [Prog.lift, wp_bind]
  unfold unitOf credK staged entry
  iintro ⟨#HR, #Hlev, ⟨Hat, Ht, Hc⟩, Hidle, ⟨S1, C1, T1, R1, W1⟩, ⟨S2, C2, T2, R2, W2⟩, ⟨S3, C3, T3, R3, W3⟩, ⟨S4, C4, T4, R4, W4⟩,
    ⟨S5, C5, T5, R5, W5⟩, ⟨S6, C6, T6, R6, W6⟩, ⟨S7, C7, T7, R7, W7⟩, Hp, ⟨Hx, Hrw, Hix, Hew, Hout⟩, HO, Hk⟩
  iapply (part1 m ρ K c _)
  iframe HR Hlev Ht Hc Hat S1 S2 S3 HO
  iintro ⟨HO, Hbar⟩; dsimp only
  iapply (part2 m ρ K c _ _ _ _)
  iframe HR S4 S5 S6 S7 HO Hx
  iintro ⟨HO, Hx⟩
  iapply (part3 m ρ c _ _)
  iframe Hrw Hix
  iintro ⟨Hrw, Hix⟩; dsimp only
  iapply (part4 m ρ K c f1 _)
  iframe HR Hlev Hew Hp C1 HO
  iintro %v ⟨Hew, Hp, HO, P1⟩
  ihave Hp := (Entails.of_eq ((rows_split m ρ c).trans (bigSep_slots fun k : Slot => rowPts m ρ c (c + k)))) $$ Hp
  rw [dev_add_zero]
  icases Hp with ⟨Hr0, Hr1, Hr2, Hr3, Hr4, Hr5, Hr6, Hr7⟩
  ihave T1 := (sdPre_intro m ρ c 1) $$ [Hr1 T1]
  · isplitl [Hr1] <;> iassumption
  ihave T2 := (sdPre_intro m ρ c 2) $$ [Hr2 T2]
  · isplitl [Hr2] <;> iassumption
  ihave T3 := (sdPre_intro m ρ c 3) $$ [Hr3 T3]
  · isplitl [Hr3] <;> iassumption
  ihave T4 := (sdPre_intro m ρ c 4) $$ [Hr4 T4]
  · isplitl [Hr4] <;> iassumption
  ihave T5 := (sdPre_intro m ρ c 5) $$ [Hr5 T5]
  · isplitl [Hr5] <;> iassumption
  ihave T6 := (sdPre_intro m ρ c 6) $$ [Hr6 T6]
  · isplitl [Hr6] <;> iassumption
  ihave T7 := (sdPre_intro m ρ c 7) $$ [Hr7 T7]
  · isplitl [Hr7] <;> iassumption
  iapply (part5 m ρ K c _ _)
  iframe HR Hlev T1 P1 T2 C2 C3 HO
  iintro %v5 ⟨HO, D1, D2, P3⟩
  iapply (part6 m ρ K c _ _)
  iframe HR Hlev T3 P3 T4 C4 C5 HO
  iintro %v6 ⟨HO, D3, D4, P5⟩
  iapply (part7 m ρ K c _ _)
  iframe HR Hlev T5 P5 T6 C6 C7 HO
  iintro %v7 ⟨HO, D5, D6, P7⟩
  iapply (part8 m ρ K c _ _ _ _)
  iframe HR T7 P7 Hr0 R1 R2 HO
  iintro ⟨HO, D7, Hr0, V1, V2⟩; dsimp only
  iapply (part9 m ρ K c _ _ _ _ _ _)
  iframe HR R3 R4 HO
  iintro ⟨HO, V3, V4⟩
  iapply (part10 m ρ K c _ _ _ f0 _)
  iframe HR R5 R6 R7 Hout HO
  iintro ⟨HO, V5, V6, V7, Hout⟩
  iapply (part11 m ρ K c _ f0 _)
  iframe HR Hout D1 W1 D2 W2 D3 W3 D4 W4 HO
  iintro ⟨HO, Hout, E1, E2, E3, E4⟩
  iapply (step_sendWait m ρ K c 5 _ (by decide) (sem_send 5)) $$ [D5 W5 HO]
  · isplitr; · iexact HR
    isplitl [D5]; · iexact D5
    isplitl [W5] <;> iassumption
  iintro ⟨HO, E5⟩
  unfold wpc; rw [wp_ret]; imodintro
  iapply (step_sendWait m ρ K c 6 _ (by decide) (sem_send 6)) $$ [D6 W6 HO]
  · isplitr; · iexact HR
    isplitl [D6]; · iexact D6
    isplitl [W6] <;> iassumption
  iintro ⟨HO, E6⟩
  unfold wpc; rw [wp_ret]; imodintro
  iapply (step_sendWait m ρ K c 7 _ (by decide) (sem_send 7)) $$ [D7 W7 HO]
  · isplitr; · iexact HR
    isplitl [D7]; · iexact D7
    isplitl [W7] <;> iassumption
  iintro ⟨HO, E7⟩
  unfold wpc; rw [wp_ret]; imodintro
  ihave G1 := (done_intro m ρ c 1) $$ [V1 E1]
  · isplitl [V1] <;> iassumption
  ihave G2 := (done_intro m ρ c 2) $$ [V2 E2]
  · isplitl [V2] <;> iassumption
  ihave G3 := (done_intro m ρ c 3) $$ [V3 E3]
  · isplitl [V3] <;> iassumption
  ihave G4 := (done_intro m ρ c 4) $$ [V4 E4]
  · isplitl [V4] <;> iassumption
  ihave G5 := (done_intro m ρ c 5) $$ [V5 E5]
  · isplitl [V5] <;> iassumption
  ihave G6 := (done_intro m ρ c 6) $$ [V6 E6]
  · isplitl [V6] <;> iassumption
  ihave G7 := (done_intro m ρ c 7) $$ [V7 E7]
  · isplitl [V7] <;> iassumption
  imod (idle_done m ρ K c) $$ [Hidle Hr0] with G0
  · isplitr; · iexact HR
    isplitl [Hidle] <;> iassumption
  rw [Prog.pure_eq_ret, wp_ret]; imodintro
  iapply Hk
  isplitl [Hbar G0 G1 G2 G3 G4 G5 G6 G7]
  · iapply (done_all m ρ c)
    isplitl [Hbar]; · iexact Hbar
    iapply (Entails.of_eq (bigSep_slots fun k : Slot => done m ρ c k).symm)
    iframe G0 G1 G2 G3 G4 G5 G6; iexact G7
  isplitr [HO]
  · unfold outAt; iframe Hx Hrw Hix Hew; iexact Hout
  iexact HO

end Cert.Moe

end
-- ==== Proof.Obl.lean ====
/-
# The body obligation

The region's one point: from the state before it and the staging buffers as the pipeline hands them over, the kernel's
body runs to the state after it, the staging buffers as the proof data say.
-/
module

public import proofs.«01_k».proof.Proof.Body

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A staging buffer whole, at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

/-- What the pipeline hands the body, and what it takes back. -/
def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ (F := F) c ∗ (dats m ρ 0 c).owesAt () t₀.succ ∗ stg c cc0_stg0_0 (xst m ρ c) ∗ stg c cc0_stg1_0 (rwst m ρ c)
    ∗ stg c cc0_stg2_0 (ixst m ρ c) ∗ stg c cc0_stg3_0 (ewst m ρ c) ∗ stg c cc0_stg4_0 (outAt m ρ c))

/-- An input window's buffer holds its block of the argument. -/
theorem before_x (c : Dev nD) (d) : (dats m ρ 0 c).before (0 : Fin 5) t₀ d = xst m ρ c := by
  unfold Dat.before; rw [if_pos (fetch0_0 t₀)]; rfl
theorem before_rw (c : Dev nD) (d) : (dats m ρ 0 c).before (1 : Fin 5) t₀ d = rwst m ρ c := by
  unfold Dat.before; rw [if_pos (fetch0_1 t₀)]; rfl
theorem before_ix (c : Dev nD) (d) : (dats m ρ 0 c).before (2 : Fin 5) t₀ d = ixst m ρ c := by
  unfold Dat.before; rw [if_pos (fetch0_2 t₀)]; rfl
theorem before_ew (c : Dev nD) (d) : (dats m ρ 0 c).before (3 : Fin 5) t₀ d = ewst m ρ c := by
  unfold Dat.before; rw [if_pos (fetch0_3 t₀)]; rfl

/-- What the body leaves is what the pipeline takes back. -/
theorem bodyPost_intro (c : Dev nD) : iprop(Φ₁ (F := F) c ∗ staged m ρ c (outAt m ρ c) ∗ owesE c 0) ⊢ bodyPost m ρ c := by
  unfold bodyPost staged owesE Dat.owesAt Pipeline.owesWithin xPts rwPts ixPts ewPts outPts
  rw [show (dats m ρ 0 c).owed t₀.succ = 0 from rfl]
  iintro ⟨HΦ, ⟨Hx, Hr, Hi, He, Ho⟩, ⟨%W, HO⟩⟩
  isplitl [HΦ]; · iexact HΦ
  isplitl [HO]
  · iexists W
    isplitr; · ipureintro; exact fun _ _ => Or.inl trivial
    iexact HO
  isplitl [Hx]
  · iexists (xst m ρ c); isplitr; · ipureintro; rfl
    iexact Hx
  isplitl [Hr]
  · iexists (rwst m ρ c); isplitr; · ipureintro; rfl
    iexact Hr
  isplitl [Hi]
  · iexists (ixst m ρ c); isplitr; · ipureintro; rfl
    iexact Hi
  isplitl [He]
  · iexists (ewst m ρ c); isplitr; · ipureintro; rfl
    iexact He
  iexists (outAt m ρ c); isplitr; · ipureintro; rfl
  iexact Ho

/-- The body from what the pipeline hands it. -/
theorem sound_body (c : Dev nD) :
    bodyPre m ρ c ⊢ wpc c (cc0_body xM (Memref.isWhole_whole _) rwM (Memref.isWhole_whole _) ixM (Memref.isWhole_whole _) ewM (Memref.isWhole_whole _)
            outM (Memref.isWhole_whole _) partM (Memref.isWhole_whole _) accM (Memref.isWhole_whole _) cc0_scratch2 cc0_scratch3 cc0_scratch4)
          (fun _ => bodyPost m ρ c) := by
  unfold bodyPre Φ₀ start scratch Dat.owesAt Pipeline.owesWithin
  rw [show (dats m ρ 0 c).owed t₀.castSucc = O₀ c from rfl]
  iintro ⟨⟨⟨⟨%K, #HR⟩, Hu, #Hlev⟩, ⟨%f1, Hp⟩, ⟨%f2, Ha⟩⟩, ⟨%W, %hW, HO⟩, ⟨%d0, %g0, %hg0, Hx⟩, ⟨%d1, %g1, %hg1, Hr⟩, ⟨%d2, %g2, %hg2, Hi⟩,
    ⟨%d3, %g3, %hg3, He⟩, ⟨%d4, %g4, %hg4, Ho⟩⟩
  have hx := hg0.trans (before_x m ρ c d0)
  have hr := hg1.trans (before_rw m ρ c d1)
  have hi := hg2.trans (before_ix m ρ c d2)
  have he := hg3.trans (before_ew m ρ c d3)
  subst hx hr hi he
  ihave HG := (given_all c f2) $$ [Hu Ha]
  · isplitl [Hu] <;> iassumption
  icases HG with ⟨Hn, Hd, H1, H2, H3, H4, H5, H6, H7⟩
  iapply (run_body m ρ K c f1 g4 fun _ => bodyPost m ρ c)
  unfold staged owesE xPts rwPts ixPts ewPts outPts partPts
  iframe HR Hlev Hn Hd H1 H2 H3 H4 H5 H6 H7 Hp Hx Hr Hi He Ho
  isplitl [HO]; · iexists W; iexact HO
  iintro H
  iapply (bodyPost_intro m ρ c)
  unfold staged owesE xPts rwPts ixPts ewPts outPts
  iexact H

set_option maxRecDepth 4000 in
/-- The pipeline's body obligation at the region's one point. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.Moe

end
-- ==== Proof.Run.lean ====
/-
# The run

The launch: the cells funded, their invariants made on all devices at once, the tokens dealt to the devices that pay,
the launch credit matched with what the devices owe. Then the run of `@main`, for any float values: it terminates, the
arguments are unchanged, the result is what the body computes, and every semaphore counter is zero.
-/
module

public import proofs.«01_k».proof.Proof.Obl
public import Idealize.ShloMosaic.Lib.Pipeline.CollectiveSegs
public import Idealize.ShloMosaic.Lib.Pipeline.ValueKit.Geometry

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Kd → GSem nD τ sig) := by
  rintro ⟨c, i⟩ ⟨d, j⟩ h
  have h1 : c = d := congrArg (fun g : GSem nD τ sig => g.1.1) h
  have h2 : i = j := csem_injective (congrArg Prod.snd h)
  rw [h1, h2]
theorem kcell_eq_iff {c d : Dev nD} {i j : Kd} : kcell (c, i) = kcell (d, j) ↔ c = d ∧ i = j :=
  kcell_injective.eq_iff.trans Prod.ext_iff

/-- All the exchange's cells, and the one duty token of each. -/
def cells : Finset (GSem nD τ sig) := Finset.univ.map ⟨kcell, kcell_injective⟩
def tokens : Finset (GSem nD τ sig × ℕ × Unit) :=
  Finset.univ.map ⟨fun ci : Dev nD × Kd => (kcell ci, 0, ()), fun _ _ h => kcell_injective (congrArg Prod.fst h)⟩

def u₀ : UU :=
  (initOf (Pipeline.cells cfgs cellOf_inj) (Pipeline.launchToks cfgs cellOf_inj), initOf cells tokens)

/-- What the launch deals device `c`: its cells' states, its positions at round 0, its cells' tokens. -/
def G (c : Dev nD) : sProp 𝕄 :=
  iprop((bigSep Finset.univ fun i : Kd => roundState ER (Rd m ρ) (kcell (c, i)) 0)
    ∗ (bigSep Finset.univ fun i : Kd => reached ER (kcell (c, i)) 0)
    ∗ (bigSep Finset.univ fun i : Kd => atPos ER (kcell (c, i)) 0 ∅ 0)
    ∗ bigSep Finset.univ fun i : Kd => dutyTok ER (kcell (c, i)) 0 ())

/-- What device `c` keeps of the positions and tokens: its positions, the tokens of the cells it pays. -/
def keeps (c : Dev nD) : sProp 𝕄 :=
  iprop((bigSep Finset.univ fun i : Kd => atPos ER (kcell (c, i)) 0 ∅ 0)
    ∗ bigSep Finset.univ fun i : Kd => dutyTok ER (kcell (tgt c i, i)) 0 ())

/-- What the global step makes of it: the records of all cells, and what the device keeps. -/
def G' (c : Dev nD) : sProp 𝕄 := iprop((∃ K, records m ρ K) ∗ keeps (F := F) c)

theorem bigSep_cells (Φ : GSem nD τ sig → sProp 𝕄) :
    bigSep cells Φ = bigSep Finset.univ fun c : Dev nD => bigSep Finset.univ fun i : Kd => Φ (kcell (c, i)) := by
  unfold cells; rw [bigSep_map, bigSep_univ_prod]; rfl
theorem bigSep_tokens :
    bigSep tokens (fun x => (dutyTok ER x.1 x.2.1 x.2.2 : sProp 𝕄))
      = bigSep Finset.univ fun c : Dev nD => bigSep Finset.univ fun i : Kd => dutyTok ER (kcell (c, i)) 0 () := by
  unfold tokens; rw [bigSep_map, bigSep_univ_prod]; rfl

/-- The exchange's share of the launch element is every device's deal. -/
theorem fund_cells : BI.own (ER (initOf cells tokens)) ⊢ (|==> bigSep Finset.univ (G m ρ) : sProp 𝕄) := by
  iintro HX
  imod (Rounds.fund ER (Rd m ρ) cells tokens) $$ HX with ⟨Hst, Hr, Hat, Htok⟩
  imodintro
  ihave Hst := (Entails.of_eq (bigSep_cells fun g => roundState ER (Rd m ρ) g 0)) $$ Hst
  ihave Hat := (Entails.of_eq (bigSep_cells fun g => atPos ER g 0 ∅ 0)) $$ Hat
  ihave Hr := (Entails.of_eq (bigSep_cells fun g => reached ER g 0)) $$ Hr
  ihave Htok := (Entails.of_eq (bigSep_tokens (F := F))) $$ Htok
  unfold G; simp only [bigSep_sep']
  isplitl [Hst]; · iexact Hst
  isplitl [Hr]; · iexact Hr
  isplitl [Hat]; · iexact Hat
  iexact Htok

/-! ## The semaphores at launch and the invariants -/

/-- The barrier semaphore is the one the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier's are the exchange's cells. -/
theorem sems0_eq (c : Dev nD) :
    (bigSep Finset.univ fun i : Kd => (semVal (kcell (c, i)) 0 : sProp 𝕄))
      = iprop(Pipeline.ownSems0 (Ix := Unit) (Name := ℕ) (U := UU) (Lvl := ℕ) (Val := Elt F) (τ := τ) osem c ∗ unscopedSems0 c) := by
  rw [unscopedSems0_eq, BI.bigSep_univ_equiv (Equiv.optionEquivSumPUnit.{0} (Fin 3 × Slot)).symm, BI.bigSep_univ_sum]
  congr 1
  exact BI.bigSep_singleton

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd m ρ) κ (kcell (c, i))))
          ∗ (bigSep Finset.univ fun i : Kd => reached ER (kcell (c, i)) 0)
          ∗ (bigSep Finset.univ fun i : Kd => atPos ER (kcell (c, i)) 0 ∅ 0)
          ∗ bigSep Finset.univ fun i : Kd => dutyTok ER (kcell (c, i)) 0 ()) := by
  unfold G
  iintro ⟨Hos, Hus, Hst, Hrest⟩
  ihave Hv := (Entails.of_eq (sems0_eq (F := F) c).symm) $$ [Hos Hus]
  · isplitl [Hos] <;> iassumption
  imod (show iprop((bigSep Finset.univ fun i : Kd => semVal (kcell (c, i)) 0) ∗ bigSep Finset.univ fun i : Kd => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  iexact Hrest

/-! ## Tokens to the devices that pay -/

theorem tgt_injective (i : Kd) : Function.Injective fun c => tgt c i := by
  have h : ∀ i : Kd, ∀ c d : Dev nD, tgt c i = tgt d i → c = d := by decide
  exact fun c d => h i c d

/-- For each kind of cell, which device pays which is a bijection. -/
def tgtEquiv (i : Kd) : Dev nD ≃ Dev nD := Equiv.ofBijective _ (Finite.injective_iff_bijective.1 (tgt_injective i))

theorem toks_around :
    (bigSep Finset.univ fun c : Dev nD => bigSep Finset.univ fun i : Kd => (dutyTok ER (kcell (c, i)) 0 () : sProp 𝕄))
      = bigSep Finset.univ fun c : Dev nD => bigSep Finset.univ fun i : Kd => dutyTok ER (kcell (tgt c i, i)) 0 () := by
  rw [BI.bigSep_univ_comm, BI.bigSep_univ_comm (fun (c : Dev nD) (i : Kd) => (dutyTok ER (kcell (tgt c i, i)) 0 () : sProp 𝕄))]
  exact bigSep_congr fun i _ => BI.bigSep_univ_equiv (tgtEquiv i) _

/-- Something persistent held beside a family goes to each of its members. -/
theorem persistent_to_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem G'_intro (K : Dev nD × Kd → ℕ) (c : Dev nD) : iprop(records m ρ K ∗ keeps (F := F) c) ⊢ G' m ρ c := by
  unfold G'
  iintro ⟨HR, HK⟩
  isplitl [HR]; · iexists K; iexact HR
  iexact HK

theorem regroup :
    (bigSep Finset.univ fun c : Dev nD => iprop((bigSep Finset.univ fun i => iprop(∃ κ : ℕ, cellInv ER (Rd m ρ) κ (kcell (c, i))))
          ∗ (bigSep Finset.univ fun i : Kd => reached ER (kcell (c, i)) 0)
          ∗ (bigSep Finset.univ fun i : Kd => atPos ER (kcell (c, i)) 0 ∅ 0)
          ∗ bigSep Finset.univ fun i : Kd => dutyTok ER (kcell (c, i)) 0 ()) : sProp 𝕄)
      ⊢ bigSep Finset.univ (G' m ρ) := by
  rw [bigSep_sep', bigSep_sep', bigSep_sep', toks_around,
    ← bigSep_univ_prod (fun ci : Dev nD × Kd => iprop(∃ κ : ℕ, cellInv ER (Rd m ρ) κ (kcell ci))),
    ← bigSep_univ_prod (fun ci : Dev nD × Kd => (reached ER (kcell ci) 0 : sProp 𝕄))]
  iintro ⟨HI, #HR, Hat, Htok⟩
  ihave HK := (BI.bigSep_exists_pi Finset.univ (fun (ci : Dev nD × Kd) (κ : ℕ) => (cellInv ER (Rd m ρ) κ (kcell ci) : sProp 𝕄))) $$ HI
  icases HK with ⟨%K, #HI⟩
  iapply (persistent_to_all (R := records m ρ K) fun c _ => G'_intro m ρ K c)
  isplitr
  · unfold records; isplitl; · iexact HI
    iexact HR
  · unfold keeps; rw [bigSep_sep']
    isplitl [Hat]; · iexact Hat
    iexact Htok

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- A tally at one cell, read at another. -/
theorem tally_kcell (a c : Dev nD) (j i : Kd) (n : ℕ) :
    (tallyAt (kcell (a, j)) () n : CellTallies nD τ sig Unit) (kcell (c, i)) () = if a = c ∧ j = i then n else 0 := by
  rw [tallyAt_apply]
  refine if_congr ?_ rfl rfl
  rw [kcell_eq_iff]
  exact ⟨fun h => ⟨h.1.1.symm, h.1.2.symm⟩, fun h => ⟨⟨h.1.symm, h.2.symm⟩, rfl⟩⟩

/-- A sum over the seven live slots, in the order the tallies are booked, is a sum over the slots but 0. -/
theorem sum_live (f : Slot → ℕ) : ∑ j ∈ Finset.range 7, f (kk j) = ∑ k ∈ Finset.univ.erase 0, f k := by
  rw [show (Finset.univ.erase 0 : Finset Slot) = {7, 6, 5, 4, 3, 2, 1} from by decide]
  simp only [Finset.sum_range_succ, Finset.range_zero, Finset.sum_empty, Nat.zero_add]
  repeat rw [Finset.sum_insert (by decide)]
  rw [Finset.sum_singleton]
  simp only [Nat.add_assoc]
  rfl

/-- What device `d` owes device `c`'s cell of kind `i`: the cell's amount, if it is the one that pays that cell. -/
def owedAmt : Kd → ℕ
  | none => 1 | some (0, k) => if k = 0 then 0 else 1 | some (1, _) => 0 | some (2, k) => if k = 0 then 0 else N

theorem sum_apply (f : ℕ → CellTallies nD τ sig Unit) (n : ℕ) (g : GSem nD τ sig) : (∑ j ∈ Finset.range n, f j) g () = ∑ j ∈ Finset.range n, f j g () := by
  induction n with
  | zero => rfl
  | succ n ih => rw [Finset.sum_range_succ, Finset.sum_range_succ, Pi.add_apply, Finsupp.add_apply, ih]

/-- One term of a sum over the live slots survives: the one at the cell's own slot. -/
theorem sum_one (P : Slot → Prop) [DecidablePred P] (q : Fin 3) (k : Slot) (n : ℕ) :
    (∑ k' ∈ (Finset.univ.erase 0 : Finset Slot), if P k' ∧ (some (q, k') : Kd) = some (q, k) then n else 0)
      = if P k then (if k = 0 then 0 else n) else 0 := by
  have h : ∀ k' : Slot, (if P k' ∧ (some (q, k') : Kd) = some (q, k) then n else 0) = if k = k' then (if P k then n else 0) else 0 := fun k' => by
    by_cases e : k = k'
    · subst e; simp
    · rw [if_neg e, if_neg fun h => e (Prod.mk.inj (Option.some.inj h.2)).2.symm]
  rw [Finset.sum_congr rfl fun k' _ => h k', Finset.sum_ite_eq]
  by_cases e : k = 0
  · subst e; simp
  · rw [if_pos (Finset.mem_erase.2 ⟨e, Finset.mem_univ _⟩), if_neg e]

theorem sum_none {S : Finset Slot} (P : Slot → Prop) [DecidablePred P] (q : Fin 3) (i : Kd) (hi : ∀ k, some (q, k) ≠ i) (n : ℕ) :
    (∑ k' ∈ S, if P k' ∧ (some (q, k') : Kd) = i then n else 0) = 0 :=
  Finset.sum_eq_zero fun k _ => if_neg fun h => hi k h.2

theorem owed_cell (d c : Dev nD) (i : Kd) : O₀ d (kcell (c, i)) () = if tgt d i = c then owedAmt i else 0 := by
  unfold O₀ oC oR
  rw [Pi.add_apply, Finsupp.add_apply, Pi.add_apply, Finsupp.add_apply, sum_apply, sum_apply, tally_kcell]
  simp only [tally_kcell]
  rw [sum_live fun k => if d + k = c ∧ (some (2, k) : Kd) = i then N else 0, sum_live fun k => if d - k = c ∧ (some (0, k) : Kd) = i then 1 else 0]
  match i with
  | none =>
    rw [sum_none _ 2 none (fun k h => nomatch h), sum_none _ 0 none (fun k h => nomatch h)]
    simp only [tgt, owedAmt, Nat.zero_add, _root_.and_true]
    exact if_congr Iff.rfl rfl rfl
  | some (0, k) =>
    rw [sum_none _ 2 (some (0, k)) (fun k' h => absurd (Prod.mk.inj (Option.some.inj h)).1 (by decide)), sum_one _ 0]
    simp only [tgt, owedAmt, Nat.zero_add, reduceCtorEq, _root_.and_false, if_false, Nat.add_zero]
    exact if_congr Iff.rfl rfl rfl
  | some (1, k) =>
    rw [sum_none _ 2 (some (1, k)) (fun k' h => absurd (Prod.mk.inj (Option.some.inj h)).1 (by decide)),
      sum_none _ 0 (some (1, k)) (fun k' h => absurd (Prod.mk.inj (Option.some.inj h)).1 (by decide))]
    simp only [tgt, owedAmt, Nat.zero_add, reduceCtorEq, _root_.and_false, if_false, ite_self]
    by_cases h : d = c
    · exact (if_pos h).symm
    · exact (if_neg h).symm
  | some (2, k) =>
    rw [sum_one _ 2, sum_none _ 0 (some (2, k)) (fun k' h => absurd (Prod.mk.inj (Option.some.inj h)).1 (by decide))]
    simp only [tgt, owedAmt, Nat.zero_add, reduceCtorEq, _root_.and_false, if_false, Nat.add_zero]
    exact if_congr Iff.rfl rfl rfl

/-- The launch credit of a cell is its amount. -/
theorem launch_cell (c : Dev nD) (i : Kd) :
    tallyOn (kcell (c, i)) (launchCredit (Pipeline.owing O₀) 0 (kcell (c, i))) = (tallyAt (kcell (c, i)) () (owedAmt i) : CellTallies nD τ sig Unit) := by
  unfold tallyAt; refine congrArg _ (Finsupp.ext fun u => ?_); cases u
  rw [Pipeline.launchCredit_owing, Finsupp.single_eq_same, Finset.sum_congr rfl fun d _ => owed_cell d c i,
    ← Equiv.sum_comp (tgtEquiv i).symm]
  rw [Finset.sum_congr rfl fun d _ => if_congr (show tgt ((tgtEquiv i).symm d) i = c ↔ d = c from by
      rw [show tgt ((tgtEquiv i).symm d) i = d from (tgtEquiv i).apply_symm_apply d]) rfl rfl,
    Finset.sum_ite_eq' Finset.univ c fun _ => owedAmt i, if_pos (Finset.mem_univ _)]

theorem cred_cell (c : Dev nD) (i : Kd) : (cred (tallyAt (kcell (c, i)) () (owedAmt i)) : sProp 𝕄) ⊢ credK (F := F) c i := by
  match i with
  | none => exact BI.Entails.refl _
  | some (0, k) =>
    unfold credK owedAmt
    by_cases h : k = 0
    · simp only [if_pos h]; iintro -; iempintro
    · simp only [if_neg h]; exact BI.Entails.refl _
  | some (1, k) => unfold credK; iintro -; iempintro
  | some (2, k) =>
    unfold credK owedAmt
    by_cases h : k = 0
    · simp only [if_pos h]; iintro -; iempintro
    · simp only [if_neg h]; exact BI.Entails.refl _

theorem creds (c : Dev nD) : (Pipeline.launchCred O₀ c : sProp 𝕄) ⊢ bigSep Finset.univ fun i : Kd => credK (F := F) c i := by
  unfold Pipeline.launchCred
  refine (bigSep_subset (Finset.subset_univ (Finset.univ.map ⟨csem, csem_injective⟩))).trans ?_
  rw [bigSep_map]
  exact bigSep_mono fun i _ => (Entails.of_eq (congrArg cred (launch_cell c i))).trans (cred_cell c i)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' keeps
  iintro ⟨-, Hlev, Hcr, -, HK, Hat, Htok⟩
  ihave Hc := (creds (F := F) c) $$ Hcr
  imodintro
  unfold start unitOf
  rw [bigSep_sep', bigSep_sep']
  isplitl
  · isplitl [HK]; · iexact HK
    isplitr [Hlev]
    · isplitl [Hat]; · iexact Hat
      isplitl [Htok]; · iexact Htok
      iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems0_eq]
  iintro ⟨Hr, Ho, Hu⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An array's contents after the run, as the library computes them. -/
def finalA (c : Dev nD) (w : Fin cfg0.W) : Buf (Elt F) ((cfg0.win w).arr.view.loc (c : Thread nD τ)) := (dats m ρ 0 c).arrAt w cfg0.N

/-- Every array of the kernel holds what the library computes it holds. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The run of `@main` on all devices, from any memory with zero counters: it terminates, the arrays hold what the
    library computes, every semaphore counter is zero again. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array after the run holds what it held. -/
theorem finalA_in (c : Dev nD) (w : Fin cfg0.W) (hw : w ≠ 4) : finalA m ρ c w = m ((cfg0.win w).arr.view.loc (c : Thread nD τ)) :=
  (dats (F := F) m ρ 0 c).arrAt_in w (by revert w; decide) _

/-! ## The contents, read at the arguments -/

/-- Reading a whole buffer through the block that is all of it. -/
theorem read_all (b : Ref sig .tc) (off : Fin b.ty.shape.rank → Nat) (inb : ∀ a, off a + b.ty.shape.size a ≤ b.ty.shape.size a)
    (f : b.ty.Contents (Elt F)) : ((View.whole b).slice (Rect.unit off b.ty.shape.size inb)).read (Elt F) f = f := by
  funext j
  show f _ = f j
  refine congrArg f (funext fun a => Fin.ext ?_)
  rw [ValueKit.view_emb_slice_whole_unit_val]
  have := inb a
  omega

theorem xst_eq (c : Dev nD) : xst m ρ c = m ((c : Thread nD τ).loc main_arg0) := read_all main_arg0 _ _ _
theorem rwst_eq (c : Dev nD) : rwst m ρ c = m ((c : Thread nD τ).loc main_arg1) := read_all main_arg1 _ _ _
theorem ixst_eq (c : Dev nD) : ixst m ρ c = m ((c : Thread nD τ).loc main_arg2) := read_all main_arg2 _ _ _
theorem ewst_eq (c : Dev nD) : ewst m ρ c = m ((c : Thread nD τ).loc main_arg3) := read_all main_arg3 _ _ _

/-- The result's array after the run holds what the body leaves. -/
theorem finalA_out (c : Dev nD) : finalA m ρ c (4 : Fin 5) = outAt m ρ c := by
  have h : (win0_4.blk (0 : Fin 1)).view.read (Elt F) (finalA m ρ c (4 : Fin 5)) = outAt m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  rw [← h]; exact (read_all main_v1 _ _ _).symm

/-- The run, read at the arguments and the result: the arguments are unchanged, the result is what the body computes of
    them, every semaphore counter is zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_v1) = outAt m ρ c)
    ∧ r.2.sem = fun _ => 0) :=
  (θ_run defs _ _).mono (fun _ h => ⟨fun c =>
    ⟨(h.1 c (0 : Fin 5)).trans (finalA_in m ρ c (0 : Fin 5) (by decide)), (h.1 c (1 : Fin 5)).trans (finalA_in m ρ c (1 : Fin 5) (by decide)),
      (h.1 c (2 : Fin 5)).trans (finalA_in m ρ c (2 : Fin 5) (by decide)), (h.1 c (3 : Fin 5)).trans (finalA_in m ρ c (3 : Fin 5) (by decide)),
      (h.1 c (4 : Fin 5)).trans (finalA_out m ρ c)⟩, h.2⟩) (run_arrays m ρ)

end Cert.Moe

end
-- ==== Proof.Transport.lean ====
/-
# The printed kernel is the idealized one

The ideal pass replaced nothing in this kernel, so the two printed programs unfold to the same one; a run proved of the
idealized kernel for any float values is a run of the printed kernel at the bit-exact ones.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Moe

open Idealize.ShloMosaic

variable {F : FTy → Type} [FloatOps F]

set_option maxRecDepth 65536 in
/-- The two kernels' bodies, label by label. -/
theorem defs₀_eq : @Cert.Kernel.defs₀ F _ Cert.Kernel.Gen.facts = @Cert.KernelIdeal.defs₀ F _ Cert.KernelIdeal.Gen.facts := by
  funext p ℓ a
  cases p
  · match ℓ, a with
    | ⟨0, _⟩, a => rfl
    | ⟨_ + 1, h⟩, _ => exact absurd h (Nat.not_lt.2 (Nat.le_add_left _ _))
  · rfl
  · rfl

set_option maxRecDepth 65536 in
/-- The two programs' definitions, pipelines included. -/
theorem defs_eq : @Cert.Kernel.defs F _ Cert.Kernel.Gen.facts = @Cert.KernelIdeal.defs F _ Cert.KernelIdeal.Gen.facts :=
  congrArg (Pipeline.defs Cert.Kernel.pcfgs) defs₀_eq

/-- The two `@main`s. -/
theorem main_eq : @Cert.Kernel.main F _ = @Cert.KernelIdeal.main F _ := rfl

end Cert.Moe

end
-- ==== Proof.Mix.lean ====
module

public import Idealize.ShloMosaic.Lib.ValueIdx
public import Idealize.ShloMosaic.PureOps.Ideal.Laws

@[expose] public section

/-!
  The mathematics of the mixture, over extended reals, with no program in it: the router's scores of a row, the
  unnormalized likelihoods, an expert's answer to a row, and the equation between the two ways of mixing the answers,
  expert by expert over all sixteen, or the two chosen experts only.
-/

noncomputable section

namespace Cert.Moe

open Idealize.ShloMosaic Idealize.ShloMosaic.ValueIdx
open scoped BigOperators

/-- The router's score of expert `e` for row `i`. -/
def score (X : (⟨2, ![256, 128]⟩ : Shape).Idx → EReal) (R : (⟨2, ![128, 16]⟩ : Shape).Idx → EReal) (i : Fin 256) (e : Fin 16) : EReal :=
  ∑ k : Fin 128, X (ix2 i k) * R (ix2 k e)

/-- The greatest score of row `i`. -/
def peak (X : (⟨2, ![256, 128]⟩ : Shape).Idx → EReal) (R : (⟨2, ![128, 16]⟩ : Shape).Idx → EReal) (i : Fin 256) : EReal :=
  (Finset.univ : Finset (Fin 16)).fold max ⊥ (score X R i)

/-- The exponential of a score less the greatest one. -/
def like (X : (⟨2, ![256, 128]⟩ : Shape).Idx → EReal) (R : (⟨2, ![128, 16]⟩ : Shape).Idx → EReal) (i : Fin 256) (e : Fin 16) : EReal :=
  Ideal.exp (score X R i e - peak X R i)

/-- Column `o` of expert `e`'s answer to row `i`. -/
def answer (X : (⟨2, ![256, 128]⟩ : Shape).Idx → EReal) (W : (⟨3, ![16, 128, 256]⟩ : Shape).Idx → EReal) (i : Fin 256) (e : Fin 16)
    (o : Fin 256) : EReal :=
  ∑ k : Fin 128, X (ix2 i k) * W (ix3 e k o)

/-- The share of expert `e` when `e0` and `e1` are chosen with likelihoods `a` and `b`. -/
def gate (a b : EReal) (e0 e1 e : Fin 16) : EReal :=
  Ideal.div ((if e0 = e then a else 0) + (if e1 = e then b else 0)) (a + b)

/-! ## Finiteness -/

/-- An extended real that is a real number. -/
abbrev IsReal (x : EReal) : Prop := ∃ r : ℝ, x = (r : EReal)

/-- A finite sum of real numbers is one. -/
theorem isReal_sum {ι : Type} (s : Finset ι) (f : ι → EReal) (h : ∀ i, IsReal (f i)) : IsReal (∑ i ∈ s, f i) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

/-- The score of finite operands is a real number. -/
theorem isReal_score {X : (⟨2, ![256, 128]⟩ : Shape).Idx → EReal} {R : (⟨2, ![128, 16]⟩ : Shape).Idx → EReal}
    (hX : ∀ j, IsReal (X j)) (hR : ∀ j, IsReal (R j)) (i : Fin 256) (e : Fin 16) : IsReal (score X R i e) :=
  isReal_sum _ _ fun k => by
    obtain ⟨a, ha⟩ := hX (ix2 i k)
    obtain ⟨b, hb⟩ := hR (ix2 k e)
    exact ⟨a * b, by rw [ha, hb, EReal.coe_mul]⟩

/-- A fold of `max` from `-∞` is `-∞` or one of the terms. -/
theorem fold_max_mem {ι : Type} (s : Finset ι) (f : ι → EReal) : s.fold max ⊥ f = ⊥ ∨ ∃ i ∈ s, s.fold max ⊥ f = f i := by
  classical
  induction s using Finset.induction_on with
  | empty => exact Or.inl rfl
  | insert a s ha ih =>
    rw [Finset.fold_insert ha]
    rcases le_total (f a) (s.fold max ⊥ f) with h | h
    · rw [max_eq_right h]
      rcases ih with ih | ⟨i, hi, ih⟩
      · exact Or.inl ih
      · exact Or.inr ⟨i, Finset.mem_insert_of_mem hi, ih⟩
    · rw [max_eq_left h]
      exact Or.inr ⟨a, Finset.mem_insert_self a s, rfl⟩

/-- The greatest score over finite operands is a real number. -/
theorem isReal_peak {X : (⟨2, ![256, 128]⟩ : Shape).Idx → EReal} {R : (⟨2, ![128, 16]⟩ : Shape).Idx → EReal}
    (hX : ∀ j, IsReal (X j)) (hR : ∀ j, IsReal (R j)) (i : Fin 256) : IsReal (peak X R i) := by
  rcases fold_max_mem (Finset.univ : Finset (Fin 16)) (score X R i) with h | ⟨e, _, h⟩
  · obtain ⟨r, hr⟩ := isReal_score hX hR i 0
    have hle : score X R i 0 ≤ peak X R i := (Finset.fold_max_le (c := peak X R i)).1 le_rfl |>.2 0 (Finset.mem_univ _)
    rw [hr, show peak X R i = ⊥ from h] at hle
    exact absurd (le_bot_iff.1 hle) (EReal.coe_ne_bot r)
  · obtain ⟨r, hr⟩ := isReal_score hX hR i e
    exact ⟨r, h.trans hr⟩

/-- A likelihood over finite operands is a positive real number. -/
theorem like_pos {X : (⟨2, ![256, 128]⟩ : Shape).Idx → EReal} {R : (⟨2, ![128, 16]⟩ : Shape).Idx → EReal}
    (hX : ∀ j, IsReal (X j)) (hR : ∀ j, IsReal (R j)) (i : Fin 256) (e : Fin 16) :
    ∃ r : ℝ, 0 < r ∧ like X R i e = (r : EReal) := by
  obtain ⟨a, ha⟩ := isReal_score hX hR i e
  obtain ⟨b, hb⟩ := isReal_peak hX hR i
  refine ⟨Real.exp (a - b), Real.exp_pos _, ?_⟩
  rw [like, ha, hb, ← EReal.coe_sub]
  rfl

/-- The sum of a row's likelihoods is a positive real number. -/
theorem sum_like_pos {X : (⟨2, ![256, 128]⟩ : Shape).Idx → EReal} {R : (⟨2, ![128, 16]⟩ : Shape).Idx → EReal}
    (hX : ∀ j, IsReal (X j)) (hR : ∀ j, IsReal (R j)) (i : Fin 256) :
    ∃ r : ℝ, 0 < r ∧ ∑ e : Fin 16, like X R i e = (r : EReal) := by
  choose f hf hfe using like_pos hX hR i
  refine ⟨∑ e, f e, Finset.sum_pos (fun e _ => hf e) ⟨0, Finset.mem_univ _⟩, ?_⟩
  rw [Finset.sum_congr rfl fun e _ => hfe e]
  norm_cast

/-! ## The two ways of mixing -/

/-- A quotient of real numbers, the divisor not zero. -/
theorem div_real {a b : ℝ} (hb : b ≠ 0) : Ideal.div (a : EReal) (b : EReal) = ((a / b : ℝ) : EReal) := by
  rw [Ideal.div_coe hb, ← EReal.coe_mul, mul_one_div]

/-- An expert that is not chosen has the share zero. -/
theorem gate_none {a b : ℝ} (ha : 0 < a) (hb : 0 < b) {e0 e1 e : Fin 16} (h0 : e0 ≠ e) (h1 : e1 ≠ e) :
    gate (a : EReal) (b : EReal) e0 e1 e = 0 := by
  rw [gate, if_neg h0, if_neg h1, add_zero, ← EReal.coe_add, ← EReal.coe_zero, div_real (by positivity), zero_div]

/-- Mixing the answers of all sixteen experts by their shares is mixing the answers of the two chosen ones by their
    normalized probabilities, renormalized over the two. -/
theorem mix {a b S : ℝ} (ha : 0 < a) (hb : 0 < b) (hS : 0 < S) (e0 e1 : Fin 16) (hab : e0 = e1 → a = b) (y : Fin 16 → EReal) :
    ∑ e : Fin 16, gate (a : EReal) (b : EReal) e0 e1 e * y e
      = Ideal.div (Ideal.div a S) (Ideal.div a S + Ideal.div b S) * y e0
        + Ideal.div (Ideal.div b S) (Ideal.div a S + Ideal.div b S) * y e1 := by
  have hs : a / S + b / S ≠ 0 := by positivity
  have h0 : (a / S) / (a / S + b / S) = a / (a + b) := by field_simp
  have h1 : (b / S) / (a / S + b / S) = b / (a + b) := by field_simp
  rw [div_real hS.ne', div_real hS.ne', ← EReal.coe_add, div_real hs, div_real hs, h0, h1]
  by_cases h : e0 = e1
  · subst h
    rw [Finset.sum_eq_single e0 (fun e _ he => by rw [gate_none ha hb he.symm he.symm, zero_mul]) (fun h => absurd (Finset.mem_univ _) h)]
    rw [gate, if_pos rfl, if_pos rfl, ← EReal.coe_add, div_real (by positivity), ← EReal.right_distrib_of_nonneg
      (EReal.coe_nonneg.2 (by positivity)) (EReal.coe_nonneg.2 (by positivity)), ← EReal.coe_add, add_div]
  · rw [← Finset.sum_subset (Finset.subset_univ ({e0, e1} : Finset (Fin 16))) (fun e _ he => by
      rw [Finset.mem_insert, Finset.mem_singleton, not_or] at he
      rw [gate_none ha hb (Ne.symm he.1) (Ne.symm he.2), zero_mul]), Finset.sum_pair h]
    rw [gate, gate, if_pos rfl, if_neg (Ne.symm h), if_neg h, if_pos rfl, add_zero, zero_add, ← EReal.coe_add,
      div_real (by positivity), div_real (by positivity)]

/-! ## Sums over the devices -/

/-- A sum over the sixteen experts is the sum over the eight devices of their two experts' terms. -/
theorem sum_pairs (f : Fin 16 → EReal) :
    ∑ e : Fin 16, f e = ∑ d : Fin 8, (f ⟨2 * d.val, by omega⟩ + f ⟨2 * d.val + 1, by omega⟩) := by
  rw [← (finProdFinEquiv (m := 8) (n := 2)).sum_comp, Fintype.sum_prod_type]
  refine Finset.sum_congr rfl fun d _ => ?_
  rw [Fin.sum_univ_two]
  exact congrArg₂ (· + ·) (congrArg f (Fin.ext (by simp [finProdFinEquiv]))) (congrArg f (Fin.ext (by simp [finProdFinEquiv, add_comm])))

/-- The eight terms taken in the order `c`, `c - 1`, …, `c - 7` are all the devices' terms. -/
theorem sum_around (f : Fin 8 → EReal) (c : Fin 8) :
    f c + f (c - 1) + f (c - 2) + f (c - 3) + f (c - 4) + f (c - 5) + f (c - 6) + f (c - 7) = ∑ d : Fin 8, f d := by
  rw [← (Equiv.subLeft c).sum_comp, Fin.sum_univ_eight]
  simp only [Equiv.subLeft_apply, sub_zero]

end Cert.Moe

end
-- ==== Proof.Pay.lean ====
module

public import proofs.«01_k».proof.Proof.Common
public import proofs.«01_k».proof.Proof.Mix
public import Idealize.ShloMosaic.Lib.Pipeline.Value
public import Idealize.ShloMosaic.Lib.ValueLayout
public import Idealize.ShloMosaic.Lib.ValueLayoutCasts
public import Idealize.ShloMosaic.Lib.Affine

@[expose] public section

/-!
  The kernel's computed values at the extended reals, read at an index: the likelihoods, the likelihoods of the two chosen
  experts, the shares, and a device's partial result, of any operands.
-/

noncomputable section

namespace Cert.Moe

open Cert.KernelIdeal Cert.KernelIdeal.Gen
open Idealize.ShloMosaic Idealize.ShloMosaic.ValueIdx
open scoped BigOperators

/-- The pattern of `-∞`. -/
theorem ofBits_neg_inf : Ideal.ofBits .f32 0xFF800000#32 = ⊥ := by
  simp [Ideal.ofBits, Ideal.ieee]

/-- Two small words are equal only if their numbers are. -/
theorem ofNat_inj {a b : Nat} (ha : a < 16) (hb : b < 16) : BitVec.ofNat 32 a = BitVec.ofNat 32 b ↔ a = b := by
  constructor
  · intro h
    have := congrArg BitVec.toNat h
    simpa [Nat.mod_eq_of_lt (show a < 4294967296 by omega), Nat.mod_eq_of_lt (show b < 4294967296 by omega)] using this
  · rintro rfl; rfl

/-- A choice by the equality of two expert numbers, as words. -/
theorem select_expert (a b : Fin 16) (x y : EReal) :
    Scalar.select (IntOp.cmpi .eq (BitVec.ofNat 32 a.val) (BitVec.ofNat 32 b.val)) x y = if a = b then x else y := by
  by_cases h : a = b
  · rw [if_pos h, (IntOp.cmpi_eq).2 (by rw [h]), select_one]
  · rw [if_neg h, eq_zero_of_ne_one (fun e => h (Fin.ext ((ofNat_inj a.isLt b.isLt).1 ((IntOp.cmpi_eq).1 e)))), select_zero]

/-- The product of `x` and the router's weights is the scores. -/
theorem scores_apply (x : FVec Ideal S256x128 .bf16) (w : FVec Ideal S128x16 .bf16) (i : Fin 256) (e : Fin 16) :
    matmul dot_S256x128_S128x16_S256x16_1_0_0_1_n_n none x w (constant S256x16 .f32 0x00000000#32) (ix2 i e) = score x w i e := by
  refine (Ideal.matmul_constant_zero_apply _ none _ _ _).trans ?_
  rw [score, ← (contrEquiv1 dot_S256x128_S128x16_S256x16_1_0_0_1_n_n 128 rfl rfl).symm.sum_comp]
  refine Finset.sum_congr rfl fun k _ => congrArg₂ (· * ·) (congrArg x ?_) (congrArg w ?_)
  · refine Shape.idx_ext₂ rfl ?_
    exact contrEquiv1_symm_val dot_S256x128_S128x16_S256x16_1_0_0_1_n_n 128 rfl rfl k
  · refine Shape.idx_ext₂ ?_ rfl
    exact contrEquiv1_symm_val dot_S256x128_S128x16_S256x16_1_0_0_1_n_n 128 rfl rfl k

/-- A column over the rows, spread over `b` columns, reads the row's entry. -/
theorem spread_apply {b : ℕ} {α : Type} (v : S256x1.Idx → α) (h : S256x1.Broadcasts ⟨2, ![256, b]⟩) (i : Fin 256) (o : Fin b) :
    broadcastTo ⟨2, ![256, b]⟩ v h (ix2 i o) = v (ix2 i 0) :=
  broadcastTo_apply v h _ _ fun a => match a with | ⟨0, _⟩ => rfl | ⟨1, _⟩ => rfl

/-- The casts of an operand to its own shape. -/
theorem pay1_apply (x : FVec Ideal S256x128 .bf16) : k0_pay1 (F := Ideal) x = x := shapeCast_self _ _
theorem pay3_apply (v : IVec S256x1 32) : k0_pay3 (F := Ideal) v = v := shapeCast_self _ _
theorem pay4_apply (v : IVec S256x1 32) : k0_pay4 (F := Ideal) v = v := shapeCast_self _ _

/-- The greatest entry of a row, kept as a column. -/
theorem row_max (v : FVec Ideal S256x16 .f32) (i : Fin 256) :
    shapeCast S256x1 (multiReduction .maximumf [1] S256 v 0xFF800000#32 reduces_S256x16_S256 (.inl rfl) rfl) shapeCasts_S256_S256x1 (ix2 i 0)
      = Finset.fold max (⊥ : EReal) (fun e : Fin 16 => v (ix2 i e)) Finset.univ := by
  rw [shapeCast_a_a1_apply]
  refine (Ideal.multiReduction_maximumf_single v 0xFF800000#32 reduces_S256x16_S256 (.inl rfl) rfl (ix1 i)).trans ?_
  refine (congrArg (fun b : EReal => Finset.fold max b (v ∘ reduces_S256x16_S256.lift (ix1 i)) Finset.univ) ofBits_neg_inf).trans ?_
  refine Finset.fold_congr fun e _ => congrArg v ?_
  exact Shape.idx_ext₂ rfl rfl

/-- The sum of a row, kept as a column. -/
theorem row_sum (v : FVec Ideal S256x16 .f32) (i : Fin 256) :
    shapeCast S256x1 (multiReduction .add [1] S256 v 0x00000000#32 reduces_S256x16_S256 (.inl rfl) rfl) shapeCasts_S256_S256x1 (ix2 i 0)
      = ∑ e : Fin 16, (v (ix2 i e) : EReal) := by
  rw [shapeCast_a_a1_apply]
  refine (Ideal.multiReduction_add_single v 0x00000000#32 reduces_S256x16_S256 (.inl rfl) rfl (ix1 i)).trans ?_
  refine Finset.sum_congr rfl fun e _ => congrArg v ?_
  exact Shape.idx_ext₂ rfl rfl

/-- The exponential of each entry less its row's greatest. -/
theorem exp_less_max (v : FVec Ideal S256x16 .f32) (i : Fin 256) (e : Fin 16) :
    exp (subf v (broadcastTo S256x16 (shapeCast S256x1 (multiReduction .maximumf [1] S256 v 0xFF800000#32 reduces_S256x16_S256 (.inl rfl) rfl)
      shapeCasts_S256_S256x1) broadcasts_S256x1_S256x16)) (ix2 i e)
      = Ideal.exp (v (ix2 i e) - Finset.fold max (⊥ : EReal) (fun e : Fin 16 => v (ix2 i e)) Finset.univ) := by
  rw [← row_max v i]
  exact congrArg (fun b : EReal => Ideal.exp (v (ix2 i e) - b)) (spread_apply _ broadcasts_S256x1_S256x16 i e)

/-- The exponentials the kernel computes are the likelihoods. -/
theorem pay2_apply (x : FVec Ideal S256x128 .bf16) (w : FVec Ideal S128x16 .bf16) (i : Fin 256) (e : Fin 16) :
    k0_pay2 (F := Ideal) x w (ix2 i e) = like x w i e := by
  unfold k0_pay2
  rw [pay1_apply, shapeCast_self]
  refine (exp_less_max _ i e).trans ?_
  rw [like, peak]
  simp only [scores_apply]

/-- The entries of the columns that hold the chosen expert's number, zero in the others. -/
theorem chosen_apply (v : IVec S256x1 32) (t : FVec Ideal S256x16 .f32) (i : Fin 256) (e k : Fin 16) (h : v (ix2 i 0) = BitVec.ofNat 32 e.val) :
    select (cmpi .eq (iota .tc S256x16 32 [1] iota_S256x16_d1_w32) (broadcastTo S256x16 v broadcasts_S256x1_S256x16)) t
      (broadcast S256x16 (Scalar.ofBits (F := Ideal) .f32 0x00000000#32)) (ix2 i k) = if k = e then t (ix2 i k) else 0 := by
  rw [select_apply]
  show Scalar.select (IntOp.cmpi .eq (iota .tc S256x16 32 [1] iota_S256x16_d1_w32 (ix2 i k)) (broadcastTo S256x16 v broadcasts_S256x1_S256x16 (ix2 i k))) _
    (Ideal.ofBits .f32 0x00000000#32) = _
  rw [iota_single_apply, spread_apply, h, Ideal.ofBits_zero_f32]
  exact select_expert k e _ _

/-- The sum over a row with all but the first chosen expert's column masked is that expert's likelihood. -/
theorem pay5_apply (x : FVec Ideal S256x128 .bf16) (w : FVec Ideal S128x16 .bf16) (v : IVec S256x1 32) (i : Fin 256) (e : Fin 16)
    (h : v (ix2 i 0) = BitVec.ofNat 32 e.val) : k0_pay5 (F := Ideal) x w v (ix2 i 0) = like x w i e := by
  unfold k0_pay5
  rw [pay3_apply]
  refine (row_sum _ i).trans ?_
  rw [Finset.sum_congr rfl fun k _ => chosen_apply v (k0_pay2 (F := Ideal) x w) i e k h, Finset.sum_ite_eq' Finset.univ e,
    if_pos (Finset.mem_univ _)]
  exact pay2_apply x w i e

/-- The same of the second chosen expert. -/
theorem pay6_apply (x : FVec Ideal S256x128 .bf16) (w : FVec Ideal S128x16 .bf16) (v : IVec S256x1 32) (i : Fin 256) (e : Fin 16)
    (h : v (ix2 i 0) = BitVec.ofNat 32 e.val) : k0_pay6 (F := Ideal) x w v (ix2 i 0) = like x w i e :=
  (show k0_pay6 (F := Ideal) x w v = k0_pay5 (F := Ideal) x w v from rfl) ▸ pay5_apply x w v i e h

/-- The product of `x` and one loaded expert matrix. -/
theorem product_apply (x : FVec Ideal S256x128 .bf16) (y : FVec Ideal S1x128x256 .bf16) (i o : Fin 256) :
    matmul dot_S256x128_S128x256_S256x256_1_0_0_1_n_n none x (shapeCast S128x256 y shapeCasts_S1x128x256_S128x256)
      (constant S256x256 .f32 0x00000000#32) (ix2 i o) = ∑ k : Fin 128, x (ix2 i k) * y (ix3 0 k o) := by
  refine (Ideal.matmul_constant_zero_apply _ none _ _ _).trans ?_
  rw [← (contrEquiv1 dot_S256x128_S128x256_S256x256_1_0_0_1_n_n 128 rfl rfl).symm.sum_comp]
  refine Finset.sum_congr rfl fun k _ => congrArg₂ (· * ·) (congrArg x ?_) ?_
  · refine Shape.idx_ext₂ rfl ?_
    exact contrEquiv1_symm_val dot_S256x128_S128x256_S256x256_1_0_0_1_n_n 128 rfl rfl k
  · refine Eq.trans (congrArg _ ?_) (shapeCast_1ab_ab_apply y shapeCasts_S1x128x256_S128x256 k o)
    refine Shape.idx_ext₂ ?_ rfl
    exact contrEquiv1_symm_val dot_S256x128_S128x256_S256x256_1_0_0_1_n_n 128 rfl rfl k

/-- The number of the expert a device compares with: twice the device's number, plus 0 or 1. -/
theorem expert_word : ∀ c : Dev nD,
    Scalar.addi (Scalar.muli (w2 c) 2#32) 0#32 = BitVec.ofNat 32 (2 * c.val)
    ∧ Scalar.addi (Scalar.muli (w2 c) 2#32) 1#32 = BitVec.ofNat 32 (2 * c.val + 1) := by decide

/-- A choice between two masked likelihoods, their sum divided by the sum of both: a share. -/
theorem share_apply (v v' : IVec S256x1 32) (a b : EReal) (e0 e1 e : Fin 16) (n : BitVec 32) (i : Fin 256)
    (h0 : v (ix2 i 0) = BitVec.ofNat 32 e0.val) (h1 : v' (ix2 i 0) = BitVec.ofNat 32 e1.val) (hn : n = BitVec.ofNat 32 e.val)
    (p q : FVec Ideal S256x1 .f32) (hp : p (ix2 i 0) = a) (hq : q (ix2 i 0) = b) (t : FVec Ideal S256x1 .f32) (ht : t (ix2 i 0) = a + b) :
    divf (addf (select (cmpi .eq v (broadcast S256x1 n)) p (broadcast S256x1 (Scalar.ofBits .f32 0x00000000#32)))
      (select (cmpi .eq v' (broadcast S256x1 n)) q (broadcast S256x1 (Scalar.ofBits .f32 0x00000000#32)))) t (ix2 i 0)
      = gate a b e0 e1 e := by
  rw [divf_apply, addf_apply, select_apply, select_apply, hp, hq, ht]
  show Ideal.div (Scalar.select (IntOp.cmpi .eq (v (ix2 i 0)) n) a (Ideal.ofBits .f32 0x00000000#32)
    + Scalar.select (IntOp.cmpi .eq (v' (ix2 i 0)) n) b (Ideal.ofBits .f32 0x00000000#32)) (a + b) = _
  rw [h0, h1, hn, Ideal.ofBits_zero_f32, select_expert, select_expert, gate]

/-- A device's partial result at an index: the shares of its two experts times their answers. -/
theorem pay10_apply (c : Dev nD) (x : FVec Ideal S256x128 .bf16) (w : FVec Ideal S128x16 .bf16) (v v' : IVec S256x1 32)
    (y y' : FVec Ideal S1x128x256 .bf16) (i o : Fin 256) (e0 e1 : Fin 16)
    (h0 : v (ix2 i 0) = BitVec.ofNat 32 e0.val) (h1 : v' (ix2 i 0) = BitVec.ofNat 32 e1.val) :
    k0_pay10 (F := Ideal) (w2 c) (k0_pay1 (F := Ideal) x) (k0_pay3 (F := Ideal) v) (k0_pay4 (F := Ideal) v') (k0_pay5 (F := Ideal) x w v) (k0_pay6 (F := Ideal) x w v') (k0_pay7 (F := Ideal) x w v v')
        (k0_pay8 (F := Ideal)) (k0_pay9 (F := Ideal) (w2 c) x w v v') y y' (ix2 i o)
      = gate (like x w i e0) (like x w i e1) e0 e1 ⟨2 * c.val, by have : c.val < 8 := c.isLt; omega⟩ * (∑ k : Fin 128, x (ix2 i k) * y (ix3 0 k o))
        + gate (like x w i e0) (like x w i e1) e0 e1 ⟨2 * c.val + 1, by have : c.val < 8 := c.isLt; omega⟩ * (∑ k : Fin 128, x (ix2 i k) * y' (ix3 0 k o)) := by
  have hp := pay5_apply x w v i e0 h0
  have hq := pay6_apply x w v' i e1 h1
  have ht : k0_pay7 (F := Ideal) x w v v' (ix2 i 0) = like x w i e0 + like x w i e1 := by
    show k0_pay5 (F := Ideal) x w v (ix2 i 0) + k0_pay6 (F := Ideal) x w v' (ix2 i 0) = _
    rw [hp, hq]
  have g0 := share_apply v v' _ _ e0 e1 ⟨2 * c.val, by have : c.val < 8 := c.isLt; omega⟩ _ i h0 h1 (expert_word c).1 _ _ hp hq _ ht
  have g1 := share_apply v v' _ _ e0 e1 ⟨2 * c.val + 1, by have : c.val < 8 := c.isLt; omega⟩ _ i h0 h1 (expert_word c).2 _ _ hp hq _ ht
  rw [pay1_apply, pay3_apply, pay4_apply]
  unfold k0_pay10
  rw [shapeCast_self, truncf_apply, addf_apply, addf_apply, mulf_apply, mulf_apply, product_apply, product_apply, spread_apply, spread_apply]
  rw [g1]
  unfold k0_pay9
  rw [pay3_apply, pay4_apply, g0]
  show (Ideal.ofBits .f32 0x00000000#32 + _) + _ = _
  rw [Ideal.ofBits_zero_f32, zero_add]

end Cert.Moe

end
-- ==== Proof.PreRead.lean ====
module

public import proofs.«01_k».proof.Proof.Pay
public import proofs.«01_k».proof.Pre_finite_routed_KernelIdeal
public import proofs.«01_k».proof.Proof.Gen.Pre_finite_routed_KernelIdeal
public import Idealize.ShloMosaic.Lib.ReduceAll

@[expose] public section

/-!
  The precondition read back: every entry of `x` and of the router's weights is a real number, and every routing index is the number
  of one of the sixteen experts.
-/

noncomputable section

namespace Cert.Moe

open Idealize.ShloMosaic Idealize.ShloMosaic.ValueIdx

/-- The pattern of `+∞` in sixteen bits. -/
theorem ofBits_inf : Ideal.ofBits .bf16 0x7F80#16 = ⊤ := by
  simp [Ideal.ofBits, Ideal.ieee]

/-- An extended real whose absolute value compares below `+∞` is a real number. -/
theorem isReal_of_abs_lt (x : EReal) (h : FloatOps.cmpf (F := Ideal) (φ := .bf16) .olt (FloatOps.absf (F := Ideal) (φ := .bf16) x) (Ideal.ofBits .bf16 0x7F80#16) = 1#1) :
    IsReal x := by
  rw [Ideal.cmpf_def, Ideal.absf_def, ofBits_inf] at h
  induction x using EReal.rec with
  | coe r => exact ⟨r, rfl⟩
  | bot => simp [Ideal.cmp] at h
  | top => simp [Ideal.cmp] at h

/-- A word that compares at least 0 and below 16 is one of the numbers 0 to 15. -/
theorem expert_of_range (v : BitVec 32) (h : IntOp.andi (IntOp.cmpi .sge v 0#32) (IntOp.cmpi .slt v 16#32) = 1#1) :
    ∃ e : Fin 16, v = BitVec.ofNat 32 e.val := by
  obtain ⟨h1, h2⟩ := IntOp.andi_eq_one.1 h
  rw [IntOp.cmpi_sge] at h1
  rw [IntOp.cmpi_slt] at h2
  have h16 : (16#32 : BitVec 32).toInt = 16 := by decide
  have h0 : (0#32 : BitVec 32).toInt = 0 := by decide
  rw [h0] at h1
  rw [h16] at h2
  have hv := BitVec.toInt_eq_toNat_cond v
  have hlt := v.isLt
  have : v.toNat < 16 := by
    split at hv <;> omega
  exact ⟨⟨v.toNat, this⟩, BitVec.eq_of_toNat_eq (by simp)⟩

variable [Cert.Pre_finite_routed_KernelIdeal.Facts]

instance : Subsingleton Cert.Pre_finite_routed_KernelIdeal.S_.Idx := ⟨fun a b => funext fun i => i.elim0⟩

/-- What the precondition says of the arguments. -/
theorem pre_read (x : FVec Ideal ⟨2, ![256, 128]⟩ .bf16) (w : FVec Ideal ⟨2, ![128, 16]⟩ .bf16) (v : IVec ⟨2, ![256, 2]⟩ 32)
    (y : FVec Ideal ⟨3, ![2, 128, 256]⟩ .bf16) (h : Cert.Pre_finite_routed_KernelIdeal.fn (F := Ideal) x w v y = fun _ => 1#1) :
    (∀ j, IsReal (x j)) ∧ (∀ j, IsReal (w j)) ∧ ∀ j, ∃ e : Fin 16, v j = BitVec.ofNat 32 e.val := by
  have h := congrFun h (fun a => a.elim0)
  obtain ⟨h12, h3⟩ := IntOp.andi_eq_one.1 h
  obtain ⟨h1, h2⟩ := IntOp.andi_eq_one.1 h12
  refine ⟨fun j => ?_, fun j => ?_, fun j => ?_⟩
  · exact isReal_of_abs_lt _ (Host.reduce_andi_all _ _ _ _ _ h1 j)
  · exact isReal_of_abs_lt _ (Host.reduce_andi_all _ _ _ _ _ h2 j)
  · exact expert_of_range _ (Host.reduce_andi_all _ _ _ _ _ h3 j)

end Cert.Moe

end
-- ==== Proof.KernelValue.lean ====
module

public import proofs.«01_k».proof.Proof.Run
public import proofs.«01_k».proof.Proof.Pay

@[expose] public section

/-!
  The kernel's result at the extended reals: device `c` leaves rows `32 c` to `32 c + 31` of the sum, over all sixteen experts,
  of each expert's share times its answer.
-/

noncomputable section

namespace Cert.Moe

open Cert.KernelIdeal Cert.KernelIdeal.Gen
open Idealize.ShloMosaic Idealize.ShloMosaic.ValueIdx Idealize.ShloMosaic.TcCoe
open scoped BigOperators

variable (m : (ℓ : Loc nD τ sig) → Buf (Elt Ideal) ℓ) (ρ : Dev nD → PrngReg)

/-- The whole sum: every expert's share times its answer, where row `i` goes to experts `e0 i` and `e1 i`. -/
def mixed (X : FVec Ideal S256x128 .bf16) (R : FVec Ideal S128x16 .bf16) (W : (⟨3, ![16, 128, 256]⟩ : Shape).Idx → EReal)
    (e0 e1 : Fin 256 → Fin 16) (i o : Fin 256) : EReal :=
  ∑ e : Fin 16, gate (like X R i (e0 i)) (like X R i (e1 i)) (e0 i) (e1 i) e * answer X W i e o

/-- A column load of the routing indices reads that column. -/
theorem col0_apply (c : Dev nD) (i : Fin 256) : col0 m ρ c (ix2 i 0) = ixst m ρ c (ix2 i 0) :=
  congrArg (ixst m ρ c) (Shape.idx_ext₂ (by show 0 + 1 * i.val = i.val; omega) rfl)
theorem col1_apply (c : Dev nD) (i : Fin 256) : col1 m ρ c (ix2 i 0) = ixst m ρ c (ix2 i 1) :=
  congrArg (ixst m ρ c) (Shape.idx_ext₂ (by show 0 + 1 * i.val = i.val; omega) rfl)

/-- An expert load reads that one of the device's two matrices. -/
theorem ex0_apply (c : Dev nD) (k : Fin 128) (o : Fin 256) : ex0 m ρ c (ix3 0 k o) = ewst m ρ c (ix3 0 k o) :=
  congrArg (ewst m ρ c) (funext fun a => Fin.ext (match a with
    | ⟨0, _⟩ => rfl
    | ⟨1, _⟩ => (by show 0 + 1 * k.val = k.val; omega)
    | ⟨2, _⟩ => (by show 0 + 1 * o.val = o.val; omega)))
theorem ex1_apply (c : Dev nD) (k : Fin 128) (o : Fin 256) : ex1 m ρ c (ix3 0 k o) = ewst m ρ c (ix3 1 k o) :=
  congrArg (ewst m ρ c) (funext fun a => Fin.ext (match a with
    | ⟨0, _⟩ => rfl
    | ⟨1, _⟩ => (by show 0 + 1 * k.val = k.val; omega)
    | ⟨2, _⟩ => (by show 0 + 1 * o.val = o.val; omega)))

/-- Block `t`'s row `r` is row `32 t + r` of the partial result. -/
theorem rowsOf_apply (d t : Dev nD) (r : Fin 32) (o : Fin 256) :
    rowsOf m ρ d t (ix2 r o) = part m ρ d (ix2 ⟨32 * t.val + r.val, by have : t.val < 8 := t.isLt; omega⟩ o) :=
  congrArg (part m ρ d) (Shape.idx_ext₂ (by show 32 * t.val + 1 * r.val = 32 * t.val + r.val; omega) (by show 0 + 1 * o.val = o.val; omega))

/-- A slot's vector cast back to rows is the rows. -/
theorem cast_asSlot (v : Vec Ideal S32x256 .bf16) : shapeCast S32x256 (asSlot v) shapeCasts_S1x32x256_S32x256 = v := by
  funext j
  show v ((Shape.reshapeEquiv _).symm (Shape.reshapeEquiv _ j)) = v j
  exact congrArg v (Equiv.symm_apply_apply _ j)

/-- The result of device `c` is its own rows and the rows it was sent, summed. -/
theorem outAt_apply (c : Dev nD) (r : Fin 32) (o : Fin 256) :
    outAt m ρ c (ix2 r o) = ∑ d : Fin 8, (rowsOf m ρ d c (ix2 r o) : EReal) := by
  refine Eq.trans ?_ (sum_around (fun d : Fin 8 => (rowsOf m ρ d c (ix2 r o) : EReal)) c)
  unfold outAt k0_pay14 k0_pay13 k0_pay12 k0_pay11 slotVal
  simp only [addf_apply, extf_apply]
  have h : ∀ d : Dev nD, shapeCast S32x256 (asSlot (rowsOf m ρ d c)) shapeCasts_S1x32x256_S32x256 (ix2 r o) = rowsOf m ρ d c (ix2 r o) :=
    fun d => congrFun (cast_asSlot (rowsOf m ρ d c)) (ix2 r o)
  have add : ∀ {a a' b b' : EReal}, a = a' → b = b' → a + b = a' + b' := fun p q => congrArg₂ (· + ·) p q
  exact add (add (add (add (add (add (add rfl (h _)) (h _)) (h _)) (h _)) (h _)) (h _)) (h _)

section Given

variable (X : FVec Ideal S256x128 .bf16) (R : FVec Ideal S128x16 .bf16) (I : IVec S256x2 32)
  (W : (⟨3, ![16, 128, 256]⟩ : Shape).Idx → EReal) (e0 e1 : Fin 256 → Fin 16)

/-- Device `d`'s partial result holds the terms of its two experts. -/
theorem part_apply (hX : ∀ c : Dev nD, m ((c.tc : Thread nD τ).loc main_arg0) = X) (hR : ∀ c : Dev nD, m ((c.tc : Thread nD τ).loc main_arg1) = R)
    (hI : ∀ c : Dev nD, m ((c.tc : Thread nD τ).loc main_arg2) = I)
    (hW : ∀ c : Dev nD, m ((c.tc : Thread nD τ).loc main_arg3) = Layout.block ⟨3, ![2, 128, 256]⟩ ⟨3, ![16, 128, 256]⟩ 0 8 c W)
    (h0 : ∀ i, I (ix2 i 0) = BitVec.ofNat 32 (e0 i).val) (h1 : ∀ i, I (ix2 i 1) = BitVec.ofNat 32 (e1 i).val) (d : Dev nD) (i o : Fin 256) :
    part m ρ d (ix2 i o)
      = gate (like X R i (e0 i)) (like X R i (e1 i)) (e0 i) (e1 i) ⟨2 * d.val, by have : d.val < 8 := d.isLt; omega⟩
          * answer X W i ⟨2 * d.val, by have : d.val < 8 := d.isLt; omega⟩ o
        + gate (like X R i (e0 i)) (like X R i (e1 i)) (e0 i) (e1 i) ⟨2 * d.val + 1, by have : d.val < 8 := d.isLt; omega⟩
          * answer X W i ⟨2 * d.val + 1, by have : d.val < 8 := d.isLt; omega⟩ o := by
  have hx : xst m ρ d = X := (xst_eq m ρ d).trans (hX d)
  have hr : rwst m ρ d = R := (rwst_eq m ρ d).trans (hR d)
  have hi : ixst m ρ d = I := (ixst_eq m ρ d).trans (hI d)
  have hw := (ewst_eq m ρ d).trans (hW d)
  unfold part
  rw [hx, hr]
  refine (pay10_apply d X R _ _ _ _ i o (e0 i) (e1 i) ?_ ?_).trans ?_
  · rw [col0_apply, hi]; exact h0 i
  · rw [col1_apply, hi]; exact h1 i
  · unfold answer
    refine congrArg₂ (fun a b : EReal => _ * a + _ * b) (Finset.sum_congr rfl fun k _ => congrArg (X (ix2 i k) * ·) ?_)
      (Finset.sum_congr rfl fun k _ => congrArg (X (ix2 i k) * ·) ?_)
    · rw [ex0_apply, hw]
      refine congrArg W (funext fun a => Fin.ext ?_)
      match a with
      | ⟨0, _⟩ => show d.val * 2 + 0 = 2 * d.val; omega
      | ⟨1, _⟩ => rfl
      | ⟨2, _⟩ => rfl
    · rw [ex1_apply, hw]
      refine congrArg W (funext fun a => Fin.ext ?_)
      match a with
      | ⟨0, _⟩ => show d.val * 2 + 1 = 2 * d.val + 1; omega
      | ⟨1, _⟩ => rfl
      | ⟨2, _⟩ => rfl

/-- What the kernel leaves on device `c` is the device's block of the whole sum. -/
theorem outAt_eq (hX : ∀ c : Dev nD, m ((c.tc : Thread nD τ).loc main_arg0) = X) (hR : ∀ c : Dev nD, m ((c.tc : Thread nD τ).loc main_arg1) = R)
    (hI : ∀ c : Dev nD, m ((c.tc : Thread nD τ).loc main_arg2) = I)
    (hW : ∀ c : Dev nD, m ((c.tc : Thread nD τ).loc main_arg3) = Layout.block ⟨3, ![2, 128, 256]⟩ ⟨3, ![16, 128, 256]⟩ 0 8 c W)
    (h0 : ∀ i, I (ix2 i 0) = BitVec.ofNat 32 (e0 i).val) (h1 : ∀ i, I (ix2 i 1) = BitVec.ofNat 32 (e1 i).val) (c : Dev nD) :
    outAt m ρ c = Layout.block ⟨2, ![32, 256]⟩ ⟨2, ![256, 256]⟩ 0 8 c (fun j => mixed X R W e0 e1 (j 0) (j 1)) := by
  funext j
  obtain ⟨r, o, rfl⟩ : ∃ (r : Fin 32) (o : Fin 256), j = ix2 r o := ⟨j 0, j 1, eq_ix2 j⟩
  rw [outAt_apply, Layout.block_apply]
  have hi : ∀ h : Layout.Tiles ⟨2, ![32, 256]⟩ ⟨2, ![256, 256]⟩ 0 8,
      h.idx c (ix2 r o) = ix2 ⟨32 * c.val + r.val, by have : c.val < 8 := c.isLt; omega⟩ o := fun h =>
    Shape.idx_ext₂ (by show c.val * 32 + r.val = 32 * c.val + r.val; omega) rfl
  rw [hi]
  show _ = mixed X R W e0 e1 _ o
  rw [mixed, sum_pairs]
  refine Finset.sum_congr rfl fun d _ => ?_
  rw [rowsOf_apply]
  exact part_apply m ρ X R I W e0 e1 hX hR hI hW h0 h1 d _ o

end Given

end Cert.Moe

end
-- ==== Proof.RefValue.lean ====
module

public import proofs.«01_k».proof.Proof.Mix
public import proofs.«01_k».proof.Proof.Pay
public import proofs.«01_k».proof.Proof.Gen.ReferenceIdeal
public import proofs.«01_k».proof.Proof.Gen.ReferenceIdeal.Run
public import Idealize.ShloMosaic.Lib.Pipeline.Value
public import Idealize.ShloMosaic.Lib.ValueLayoutCasts

@[expose] public section

/-!
  The reference's result at the extended reals: row `i`, column `o` is the sum of the two chosen experts' answers, each times its
  renormalized probability.
-/

noncomputable section

namespace Cert.MoeRef

open Cert.ReferenceIdeal Cert.ReferenceIdeal.Gen Cert.Moe
open Idealize.ShloMosaic Idealize.ShloMosaic.ValueIdx Idealize.ShloMosaic.TcCoe
open scoped BigOperators

/-! ## Its operations read at an index -/

/-- A column, kept as a two-axis array. -/
theorem keep_apply {α : Type} (v : S256.Idx → α) (h : S256.BroadcastsInDim S256x1 (![0] : Fin 1 → Fin 2)) (i : Fin 256) :
    broadcastInDim S256x1 ![0] h v (ix2 i 0) = v (ix1 i) :=
  broadcastInDim_apply _ h v _ _ fun a => match a with | ⟨0, _⟩ => rfl

/-- A column spread over `b` columns. -/
theorem widen_apply {b : ℕ} {α : Type} (v : S256x1.Idx → α) (h : S256x1.BroadcastsInDim ⟨2, ![256, b]⟩ (![0, 1] : Fin 2 → Fin 2))
    (i : Fin 256) (o : Fin b) : broadcastInDim ⟨2, ![256, b]⟩ ![0, 1] h v (ix2 i o) = v (ix2 i 0) :=
  broadcastInDim_apply _ h v _ _ fun a => match a with | ⟨0, _⟩ => rfl | ⟨1, _⟩ => rfl

/-- The scores. -/
theorem dot_apply (x : FVec Ideal S256x128 .bf16) (w : FVec Ideal S128x16 .bf16) (hb : FTy.bits .bf16 < FTy.bits .f32) (i : Fin 256) (e : Fin 16) :
    Host.dotGeneral dot_S256x128_S128x16_S256x16_1_0_0_1_n_n none (extf .f32 x hb) (extf .f32 w hb) (ix2 i e) = score x w i e := by
  refine (Ideal.dotGeneral_apply _ none _ _ _ _).trans ?_
  rw [score, ← (contrEquiv1 dot_S256x128_S128x16_S256x16_1_0_0_1_n_n 128 rfl rfl).symm.sum_comp]
  refine Finset.sum_congr rfl fun k _ => congrArg₂ (· * ·) (congrArg x ?_) (congrArg w ?_)
  · refine Shape.idx_ext₂ rfl ?_
    exact contrEquiv1_symm_val dot_S256x128_S128x16_S256x16_1_0_0_1_n_n 128 rfl rfl k
  · refine Shape.idx_ext₂ ?_ rfl
    exact contrEquiv1_symm_val dot_S256x128_S128x16_S256x16_1_0_0_1_n_n 128 rfl rfl k

/-- The greatest entry of a row. -/
theorem rmax_apply (v : FVec Ideal S256x16 .f32) (h : S256x16.ReducesTo [1] S256) (hu : 0 < S_.numel) (i : Fin 256) :
    Host.reduce (FloatOps.maximumf (F := Ideal) (φ := .f32)) v (constant S_ .f32 0xFF800000#32) h hu (ix1 i)
      = Finset.fold max (⊥ : EReal) (fun e : Fin 16 => v (ix2 i e)) Finset.univ := by
  have hr : S256x16.Reduces [1] S256 := by decide
  refine (Host.reduce_eq_fold_single (max : EReal → EReal → EReal) v (constant (F := Ideal) S_ .f32 0xFF800000#32) h hr hu (ix1 i)).trans ?_
  refine (congrArg (fun b : EReal => Finset.fold max b (v ∘ hr.lift (ix1 i)) Finset.univ) ofBits_neg_inf).trans ?_
  refine Finset.fold_congr fun e _ => congrArg v ?_
  exact Shape.idx_ext₂ rfl rfl

/-- The sum of a row. -/
theorem rsum_apply (v : FVec Ideal S256x16 .f32) (h : S256x16.ReducesTo [1] S256) (hu : 0 < S_.numel) (i : Fin 256) :
    Host.reduceAdd v (constant S_ .f32 0x00000000#32) h hu (ix1 i) = ∑ e : Fin 16, (v (ix2 i e) : EReal) := by
  have hr : S256x16.Reduces [1] S256 := by decide
  refine (Ideal.hostReduceAdd_single h hr v (Ideal.ofBits .f32 0x00000000#32) (ix1 i)).trans ?_
  rw [Ideal.ofBits_zero_f32, zero_add]
  refine Finset.sum_congr rfl fun e _ => congrArg v ?_
  exact Shape.idx_ext₂ rfl rfl

/-- A column of the routing indices. -/
theorem column_apply (v : IVec S256x2 32) (s : Fin 2) (h : S256x2.Slices ![0, s.val] S256x1) (h' : S256x1.ShapeCasts S256)
    (hb : S256.BroadcastsInDim S256x1 (![0] : Fin 1 → Fin 2)) (i : Fin 256) :
    broadcastInDim S256x1 ![0] hb (shapeCast S256 (extractStridedSlice S256x1 ![0, s.val] v h) h') (ix2 i 0) = v (ix2 i s) := by
  rw [keep_apply]
  refine (shapeCast_apply _ h' (ix1 i) (ix2 i 0) ?_).trans ?_
  · rw [Shape.rowMajor_val_two, Shape.rowMajor_val_one]
    show i.val * 1 + 0 = i.val
    omega
  · refine extractStridedSlice_apply _ v h _ _ fun a => ?_
    match a with
    | ⟨0, _⟩ => exact (Nat.zero_add _).symm
    | ⟨1, _⟩ => rfl

/-- A number of one of the sixteen experts, read as a signed word and clamped, is itself. -/
theorem clamp_expert (e : Fin 16) : min (BitVec.ofNat 32 e.val).toInt.toNat (16 - 1) = e.val := by
  revert e; decide

/-- The step that wraps negative indices leaves an expert's number alone. -/
theorem wrap_apply (v : IVec S256x1 32) (h : S_.BroadcastsInDim S256x1 (![] : Fin 0 → Fin 2)) (h' : S256x1.ShapeCasts S256x1x1) (i : Fin 256)
    (e : Fin 16) (he : v (ix2 i 0) = BitVec.ofNat 32 e.val) :
    shapeCast S256x1x1 (select (cmpi .slt v (broadcastInDim S256x1 ![] h (constantI S_ 32 0#32)))
      (addi v (broadcastInDim S256x1 ![] h (constantI S_ 32 16#32))) v) h' (ix3 i 0 0) = BitVec.ofNat 32 e.val := by
  refine (shapeCast_apply _ h' (ix3 i 0 0) (ix2 i 0) ?_).trans ?_
  · rw [Shape.rowMajor_val_two, Shape.rowMajor_val_three]
    show i.val * 1 + 0 = (i.val * 1 + 0) * 1 + 0
    omega
  · show Scalar.select (IntOp.cmpi .slt (v (ix2 i 0)) 0#32) (IntOp.addi (v (ix2 i 0)) 16#32) (v (ix2 i 0)) = _
    rw [he]
    clear he
    revert e; decide

/-- The lookup of one entry in each row reads the entry at the index. -/
theorem lookup_apply {α : Type} (p : S256x16.Idx → α) (v : IVec S256x1x1 32) (i : Fin 256) (e : Fin 16)
    (he : v (ix3 i 0 0) = BitVec.ofNat 32 e.val) :
    Host.gather gather_S256x16_S256x1x1_S256x1_n_1_0_0_1_2_11 p v (ix2 i 0) = p (ix2 i e) := by
  unfold Host.gather
  refine congrArg p (Shape.idx_ext₂ ?_ ?_)
  · show GatherDims.start _ (ix2 i 0) v 0 + GatherDims.batchCoord _ (ix2 i 0) 0 + GatherDims.offCoord _ (ix2 i 0) 0 = i.val
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ gather_S256x16_S256x1x1_S256x1_n_1_0_0_1_2_11.operandBatchingDims from List.mem_singleton.mpr rfl)]
    rfl
  · show GatherDims.start _ (ix2 i 0) v 1 + GatherDims.batchCoord _ (ix2 i 0) 1 + GatherDims.offCoord _ (ix2 i 0) 1 = e.val
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    rw [dif_pos (show (1 : Fin 2) ∈ gather_S256x16_S256x1x1_S256x1_n_1_0_0_1_2_11.startIndexMap from List.mem_singleton.mpr rfl)]
    refine Eq.trans (congrArg (fun u : BitVec 32 => min u.toInt.toNat (16 - 1)) (Eq.trans (congrArg v ?_) he)) (clamp_expert e)
    funext b; refine Fin.ext ?_
    match b with
    | ⟨0, _⟩ => rfl
    | ⟨1, _⟩ => rfl
    | ⟨2, _⟩ => rfl

/-- The lookup of one matrix for each row reads the matrix at the index. -/
theorem take_apply {α : Type} (y : S16x128x256.Idx → α) (v : IVec S256x1 32) (i : Fin 256) (k : Fin 128) (o : Fin 256) (e : Fin 16)
    (he : v (ix2 i 0) = BitVec.ofNat 32 e.val) :
    Host.gather gather_S16x128x256_S256x1_S256x128x256_12_0_n_n_0_1_1128256 y v (ix3 i k o) = y (ix3 e k o) := by
  unfold Host.gather
  refine congrArg y (funext fun a => Fin.ext ?_)
  show GatherDims.start _ (ix3 i k o) v a + GatherDims.batchCoord _ (ix3 i k o) a + GatherDims.offCoord _ (ix3 i k o) a = _
  rw [GatherDims.batchCoord_eq_zero _ _ _ List.not_mem_nil, Nat.add_zero]
  have ha : a = 0 ∨ a = 1 ∨ a = 2 := match a with | ⟨0, _⟩ => .inl rfl | ⟨1, _⟩ => .inr (.inl rfl) | ⟨2, _⟩ => .inr (.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x128x256_S256x1_S256x128x256_12_0_n_n_0_1_1128256.startIndexMap from List.mem_singleton.mpr rfl)]
    refine Eq.trans (congrArg (fun u : BitVec 32 => min u.toInt.toNat (16 - 1)) (Eq.trans (congrArg v ?_) he)) (clamp_expert e)
    funext b; refine Fin.ext ?_
    match b with
    | ⟨0, _⟩ => rfl
    | ⟨1, _⟩ => rfl
  all_goals
    unfold GatherDims.start GatherDims.offCoord
    rw [dif_neg (by decide), dif_pos (by decide), Nat.zero_add]
    rfl

/-- The product of each row of `x` with that row's own matrix. -/
theorem rowdot_apply (x : FVec Ideal S256x128 .f32) (y : FVec Ideal S256x128x256 .f32) (i o : Fin 256) :
    Host.dotGeneral dot_S256x128_S256x128x256_S256x256_1_1_n_2_0_0 none x y (ix2 i o) = ∑ k : Fin 128, (x (ix2 i k) * y (ix3 i k o) : EReal) := by
  refine (Ideal.dotGeneral_apply _ none _ _ _ _).trans ?_
  rw [← (contrEquiv1 dot_S256x128_S256x128x256_S256x256_1_1_n_2_0_0 128 rfl rfl).symm.sum_comp]
  refine Finset.sum_congr rfl fun k _ => congrArg₂ (· * ·) (congrArg x ?_) (congrArg y ?_)
  · refine Shape.idx_ext₂ rfl ?_
    exact contrEquiv1_symm_val dot_S256x128_S256x128x256_S256x256_1_1_n_2_0_0 128 rfl rfl k
  · refine funext fun a => Fin.ext ?_
    match a with
    | ⟨0, _⟩ => rfl
    | ⟨1, _⟩ => exact contrEquiv1_symm_val dot_S256x128_S256x128x256_S256x256_1_1_n_2_0_0 128 rfl rfl k
    | ⟨2, _⟩ => rfl

/-! ## Its result, part by part -/

section Parts

variable (x : FVec Ideal S256x128 .bf16) (w : FVec Ideal S128x16 .bf16) (v : IVec S256x2 32) (y : FVec Ideal S16x128x256 .bf16)

/-- The scores, their exponentials less the row's greatest, and the probabilities. -/
def scoreA : FVec Ideal S256x16 .f32 :=
  Host.dotGeneral dot_S256x128_S128x16_S256x16_1_0_0_1_n_n none (extf .f32 x bitsLt_bf16_f32) (extf .f32 w bitsLt_bf16_f32)
def expA : FVec Ideal S256x16 .f32 :=
  Host.exp (subf (scoreA x w) (broadcastInDim S256x16 ![0, 1] bcast_S256x1_S256x16_0_1 (broadcastInDim S256x1 ![0] bcast_S256_S256x1_0
    (Host.reduce FloatOps.maximumf (scoreA x w) (constant S_ .f32 0xFF800000#32) reducesTo_S256x16_S256_d1 h_S_))))
def probA : FVec Ideal S256x16 .f32 :=
  Host.divf (expA x w) (broadcastInDim S256x16 ![0, 1] bcast_S256x1_S256x16_0_1 (broadcastInDim S256x1 ![0] bcast_S256_S256x1_0
    (Host.reduceAdd (expA x w) (constant S_ .f32 0x00000000#32) reducesTo_S256x16_S256_d1 h_S_)))

/-- The two columns of the routing indices. -/
def firstA : IVec S256x1 32 := broadcastInDim S256x1 ![0] bcast_S256_S256x1_0 (shapeCast S256
  (extractStridedSlice S256x1 ![0, 0] v slices_S256x2_S256x1_0_0) shapeCasts_S256x1_S256)
def secondA : IVec S256x1 32 := broadcastInDim S256x1 ![0] bcast_S256_S256x1_0 (shapeCast S256
  (extractStridedSlice S256x1 ![0, 1] v slices_S256x2_S256x1_0_1) shapeCasts_S256x1_S256)

/-- The probability of the expert a column names, and the answer of it. -/
def chosenA (u : IVec S256x1 32) : FVec Ideal S256x1 .f32 :=
  Host.gather gather_S256x16_S256x1x1_S256x1_n_1_0_0_1_2_11 (probA x w) (shapeCast S256x1x1 (select
    (cmpi .slt u (broadcastInDim S256x1 ![] bcast_S_S256x1 (constantI S_ 32 0#32)))
    (addi u (broadcastInDim S256x1 ![] bcast_S_S256x1 (constantI S_ 32 16#32))) u) shapeCasts_S256x1_S256x1x1)
def answerA (u : IVec S256x1 32) : FVec Ideal S256x256 .f32 :=
  Host.dotGeneral dot_S256x128_S256x128x256_S256x256_1_1_n_2_0_0 none (extf .f32 x bitsLt_bf16_f32)
    (Host.gather gather_S16x128x256_S256x1_S256x128x256_12_0_n_n_0_1_1128256 (extf .f32 y bitsLt_bf16_f32) u)

/-- One expert's probability over the sum of both, times its answer. -/
def termA (g g0 g1 : FVec Ideal S256x1 .f32) (z : FVec Ideal S256x256 .f32) : FVec Ideal S256x256 .f32 :=
  mulf (broadcastInDim S256x256 ![0, 1] bcast_S256x1_S256x256_0_1 (Host.divf g (addf g0 g1))) z

/-- The score array holds the scores. -/
theorem scoreA_apply (i : Fin 256) (e : Fin 16) : scoreA x w (ix2 i e) = score x w i e := dot_apply x w _ i e

/-- Their exponentials are the likelihoods. -/
theorem expA_apply (i : Fin 256) (e : Fin 16) : expA x w (ix2 i e) = like x w i e := by
  have h := (widen_apply _ bcast_S256x1_S256x16_0_1 i e).trans ((keep_apply _ bcast_S256_S256x1_0 i).trans
    (rmax_apply (scoreA x w) reducesTo_S256x16_S256_d1 h_S_ i))
  refine (congrArg (fun b : EReal => Ideal.exp (scoreA x w (ix2 i e) - b)) h).trans ?_
  rw [like, peak]
  simp only [scoreA_apply]

/-- A probability is the likelihood over the sum of the row's. -/
theorem probA_apply (i : Fin 256) (e : Fin 16) : probA x w (ix2 i e) = Ideal.div (like x w i e) (∑ e' : Fin 16, like x w i e') := by
  have h := (widen_apply _ bcast_S256x1_S256x16_0_1 i e).trans ((keep_apply _ bcast_S256_S256x1_0 i).trans
    (rsum_apply (expA x w) reducesTo_S256x16_S256_d1 h_S_ i))
  refine (congrArg (fun b : EReal => Ideal.div (expA x w (ix2 i e)) b) h).trans ?_
  simp only [expA_apply]

/-- The two columns read the two routing indices of a row. -/
theorem firstA_apply (i : Fin 256) : firstA v (ix2 i 0) = v (ix2 i 0) :=
  column_apply v 0 slices_S256x2_S256x1_0_0 shapeCasts_S256x1_S256 bcast_S256_S256x1_0 i
theorem secondA_apply (i : Fin 256) : secondA v (ix2 i 0) = v (ix2 i 1) :=
  column_apply v 1 slices_S256x2_S256x1_0_1 shapeCasts_S256x1_S256 bcast_S256_S256x1_0 i

/-- A chosen expert's probability. -/
theorem chosenA_apply (u : IVec S256x1 32) (i : Fin 256) (e : Fin 16) (he : u (ix2 i 0) = BitVec.ofNat 32 e.val) :
    chosenA x w u (ix2 i 0) = Ideal.div (like x w i e) (∑ e' : Fin 16, like x w i e') :=
  (lookup_apply (probA x w) _ i e (wrap_apply u bcast_S_S256x1 shapeCasts_S256x1_S256x1x1 i e he)).trans (probA_apply x w i e)

/-- A chosen expert's answer. -/
theorem answerA_apply (u : IVec S256x1 32) (i o : Fin 256) (e : Fin 16) (he : u (ix2 i 0) = BitVec.ofNat 32 e.val) :
    answerA x y u (ix2 i o) = answer x y i e o := by
  refine (rowdot_apply _ _ i o).trans ?_
  rw [answer]
  exact Finset.sum_congr rfl fun k _ => congrArg (fun b : EReal => x (ix2 i k) * b) (take_apply _ u i k o e he)

/-- One term at an index. -/
theorem termA_apply (g g0 g1 : FVec Ideal S256x1 .f32) (z : FVec Ideal S256x256 .f32) (i o : Fin 256) :
    termA g g0 g1 z (ix2 i o) = (Ideal.div (g (ix2 i 0)) (g0 (ix2 i 0) + g1 (ix2 i 0)) * z (ix2 i o) : EReal) :=
  congrArg (fun b : EReal => b * z (ix2 i o)) (widen_apply _ bcast_S256x1_S256x256_0_1 i o)

end Parts

variable (m : (ℓ : Loc nD τ sig) → Buf (Elt Ideal) ℓ)

set_option maxRecDepth 8192 in
/-- The reference's result is the two terms, summed. -/
theorem res_eq (c : Dev nD) (x : FVec Ideal S256x128 .bf16) (w : FVec Ideal S128x16 .bf16) (v : IVec S256x2 32) (y : FVec Ideal S16x128x256 .bf16)
    (hx : m ((c.tc : Thread nD τ).loc main_arg0) = x) (hw : m ((c.tc : Thread nD τ).loc main_arg1) = w)
    (hv : m ((c.tc : Thread nD τ).loc main_arg2) = v) (hy : m ((c.tc : Thread nD τ).loc main_arg3) = y) :
    Cert.ReferenceIdeal.Value.res_main_v32 m c
      = addf (termA (chosenA x w (firstA v)) (chosenA x w (firstA v)) (chosenA x w (secondA v)) (answerA x y (firstA v)))
          (termA (chosenA x w (secondA v)) (chosenA x w (firstA v)) (chosenA x w (secondA v)) (answerA x y (secondA v))) := by
  subst hx; subst hw; subst hv; subst hy
  rfl

/-- The reference's result at an index, where row `i` goes to experts `e0 i` and `e1 i`. -/
theorem res_apply (c : Dev nD) (x : FVec Ideal S256x128 .bf16) (w : FVec Ideal S128x16 .bf16) (v : IVec S256x2 32) (y : FVec Ideal S16x128x256 .bf16)
    (hx : m ((c.tc : Thread nD τ).loc main_arg0) = x) (hw : m ((c.tc : Thread nD τ).loc main_arg1) = w)
    (hv : m ((c.tc : Thread nD τ).loc main_arg2) = v) (hy : m ((c.tc : Thread nD τ).loc main_arg3) = y) (i o : Fin 256) (e0 e1 : Fin 16)
    (h0 : v (ix2 i 0) = BitVec.ofNat 32 e0.val) (h1 : v (ix2 i 1) = BitVec.ofNat 32 e1.val) :
    Cert.ReferenceIdeal.Value.res_main_v32 m c (ix2 i o)
      = (Ideal.div (Ideal.div (like x w i e0) (∑ e : Fin 16, like x w i e))
            (Ideal.div (like x w i e0) (∑ e : Fin 16, like x w i e) + Ideal.div (like x w i e1) (∑ e : Fin 16, like x w i e)) * answer x y i e0 o
          + Ideal.div (Ideal.div (like x w i e1) (∑ e : Fin 16, like x w i e))
            (Ideal.div (like x w i e0) (∑ e : Fin 16, like x w i e) + Ideal.div (like x w i e1) (∑ e : Fin 16, like x w i e)) * answer x y i e1 o : EReal) := by
  rw [res_eq m c x w v y hx hw hv hy, addf_apply, termA_apply, termA_apply,
    chosenA_apply x w _ i e0 ((firstA_apply v i).trans h0), chosenA_apply x w _ i e1 ((secondA_apply v i).trans h1),
    answerA_apply x y _ i o e0 ((firstA_apply v i).trans h0), answerA_apply x y _ i o e1 ((secondA_apply v i).trans h1)]

end Cert.MoeRef

end
-- ==== Proof.Value.lean ====
module

public import proofs.«01_k».proof.Proof.KernelValue
public import proofs.«01_k».proof.Proof.RefValue

@[expose] public section

/-!
  The two results are one array: with finite `x` and router weights and indices that name experts, the sum over all sixteen experts of
  share times answer is the reference's sum over the two chosen ones.
-/

noncomputable section

namespace Cert.Moe

open Idealize.ShloMosaic Idealize.ShloMosaic.ValueIdx
open scoped BigOperators

/-- The reference's result is the whole sum the kernel's devices hold blocks of. -/
theorem ref_eq_mixed (m : (ℓ : Loc Cert.ReferenceIdeal.nD Cert.ReferenceIdeal.τ Cert.ReferenceIdeal.sig) → Buf (Elt Ideal) ℓ) (c : Dev Cert.ReferenceIdeal.nD)
    (X : FVec Ideal ⟨2, ![256, 128]⟩ .bf16) (R : FVec Ideal ⟨2, ![128, 16]⟩ .bf16) (I : IVec ⟨2, ![256, 2]⟩ 32) (W : FVec Ideal ⟨3, ![16, 128, 256]⟩ .bf16)
    (hX : m ((c.tc : Thread Cert.ReferenceIdeal.nD Cert.ReferenceIdeal.τ).loc Cert.ReferenceIdeal.main_arg0) = X)
    (hR : m ((c.tc : Thread Cert.ReferenceIdeal.nD Cert.ReferenceIdeal.τ).loc Cert.ReferenceIdeal.main_arg1) = R)
    (hI : m ((c.tc : Thread Cert.ReferenceIdeal.nD Cert.ReferenceIdeal.τ).loc Cert.ReferenceIdeal.main_arg2) = I)
    (hW : m ((c.tc : Thread Cert.ReferenceIdeal.nD Cert.ReferenceIdeal.τ).loc Cert.ReferenceIdeal.main_arg3) = W)
    (fX : ∀ j, IsReal (X j)) (fR : ∀ j, IsReal (R j)) (e0 e1 : Fin 256 → Fin 16)
    (h0 : ∀ i, I (ix2 i 0) = BitVec.ofNat 32 (e0 i).val) (h1 : ∀ i, I (ix2 i 1) = BitVec.ofNat 32 (e1 i).val) :
    Cert.ReferenceIdeal.Value.res_main_v32 m c = fun j => mixed X R W e0 e1 (j 0) (j 1) := by
  funext j
  obtain ⟨i, o, rfl⟩ : ∃ i o : Fin 256, j = ix2 i o := ⟨j 0, j 1, eq_ix2 j⟩
  refine (Cert.MoeRef.res_apply m c X R I W hX hR hI hW i o (e0 i) (e1 i) (h0 i) (h1 i)).trans ?_
  show _ = mixed X R W e0 e1 i o
  obtain ⟨a, ha, hae⟩ := like_pos fX fR i (e0 i)
  obtain ⟨b, hb, hbe⟩ := like_pos fX fR i (e1 i)
  obtain ⟨S, hS, hSe⟩ := sum_like_pos fX fR i
  have hab : e0 i = e1 i → a = b := fun h => EReal.coe_injective (by rw [← hae, ← hbe, h])
  rw [mixed, hae, hbe, hSe]
  exact (mix ha hb hS (e0 i) (e1 i) hab fun e => answer X W i e o).symm

end Cert.Moe

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_routed_KernelIdeal
public import proofs.«01_k».proof.Proof.Gen.Pre_finite_routed_ReferenceIdeal
public import proofs.«01_k».proof.Proof.Run
public import proofs.«01_k».proof.Proof.Transport
public import proofs.«01_k».proof.Proof.PreRead
public import proofs.«01_k».proof.Proof.Value
public import Idealize.ShloMosaic.Adequacy
public import Idealize.ShloMosaic.Init

@[expose] public section

noncomputable section

namespace Cert.Proof

open Idealize.ShloMosaic Idealize.SL.Sem Cert.Kernel

/-! The witnesses of the programs' stated facts, as instances. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_routed_KernelIdeal.Facts := Cert.Pre_finite_routed_KernelIdeal.Gen.facts
local instance : Cert.Pre_finite_routed_ReferenceIdeal.Facts := Cert.Pre_finite_routed_ReferenceIdeal.Gen.facts

/-- The idealized kernel's run, read at its arguments and its counters. -/
theorem frame_pi : Cert.quiescent_KernelIdeal := fun m g _ =>
  (θ_run Cert.KernelIdeal.defs _ _).mono (fun _ h => ⟨fun c => ⟨(h.1 c).1, (h.1 c).2.1, (h.1 c).2.2.1, (h.1 c).2.2.2.1⟩, h.2⟩)
    (Cert.Moe.run_main (F := Ideal) m g)

/-- The printed kernel is the same program (`Moe.defs_eq`, `Moe.main_eq`), so its run at the bit-exact floats is too. -/
theorem frame_p : Cert.quiescent_Kernel := fun m g _ => by
  rw [Cert.Moe.defs_eq, Cert.Moe.main_eq]
  exact (θ_run Cert.KernelIdeal.defs _ _).mono (fun _ h => ⟨fun c => ⟨(h.1 c).1, (h.1 c).2.1, (h.1 c).2.2.1, (h.1 c).2.2.2.1⟩, h.2⟩)
    (Cert.Moe.run_main (F := Bits) m g)

/-- The reference's run, read at its arguments; it declares no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Both programs compute the whole sum: each device of the kernel leaves its block of it, the reference all of it. -/
theorem algebraic : Cert.algebraic_KernelIdeal_ReferenceIdeal_pre_finite_routed_KernelIdeal := by
  intro m g m' g' hpre hargs
  obtain ⟨fX, fR, hI⟩ := Cert.Moe.pre_read _ _ _ _ (hpre 0)
  rw [(hargs 0).1] at fX
  rw [(hargs 0).2.1] at fR
  rw [(hargs 0).2.2.1] at hI
  choose e0 h0 using fun i : Fin 256 => hI (ValueIdx.ix2 i 0)
  choose e1 h1 using fun i : Fin 256 => hI (ValueIdx.ix2 i 1)
  refine ⟨Cert.ReferenceIdeal.Value.res_main_v32 m' 0, ?_, ?_⟩
  · refine (θ_run Cert.KernelIdeal.defs _ _).mono (fun r h c => ?_) (Cert.Moe.run_main (F := Ideal) m g)
    obtain ⟨a0, a1, a2, a3, hv⟩ := h.1 c
    refine ⟨?_, a0, a1, a2, a3⟩
    rw [hv, Cert.Moe.ref_eq_mixed m' 0 _ _ _ _ rfl rfl rfl rfl fX fR e0 e1 h0 h1]
    exact Cert.Moe.outAt_eq m g _ _ _ _ e0 e1 (fun c => (hargs c).1) (fun c => (hargs c).2.1) (fun c => (hargs c).2.2.1)
      (fun c => (hargs c).2.2.2) h0 h1 c
  · exact (θ_run Cert.ReferenceIdeal.defs _ _).mono (fun r h => h 0) (Cert.ReferenceIdeal.Value.run (F := Ideal) m' g')

/-- All the claims. -/
theorem claim : Cert.Claim :=
  ⟨Cert.Kernel.Gen.facts, Cert.KernelIdeal.Gen.facts, Cert.ReferenceIdeal.Gen.facts, Cert.Pre_finite_routed_KernelIdeal.Gen.facts, Cert.Pre_finite_routed_ReferenceIdeal.Gen.facts,
    frame_p, frame_pi, fun m g _ => frame_pi m g trivial, frame_ri, fun m g _ => frame_ri m g trivial, trivial, algebraic⟩

end Cert.Proof

end
